-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2x512 : Shape := ⟨3, ![256, 2, 512]⟩
abbrev S3333x30x3 : Shape := ⟨3, ![3333, 30, 3]⟩
abbrev S3333x3 : Shape := ⟨2, ![3333, 3]⟩
abbrev S9999x1000 : Shape := ⟨2, ![9999, 1000]⟩
abbrev S1000 : Shape := ⟨1, ![1000]⟩
abbrev S1000x800 : Shape := ⟨2, ![1000, 800]⟩
abbrev S800 : Shape := ⟨1, ![800]⟩
abbrev S800x800 : Shape := ⟨2, ![800, 800]⟩
abbrev S800x400 : Shape := ⟨2, ![800, 400]⟩
abbrev S400 : Shape := ⟨1, ![400]⟩
abbrev S512x512 : Shape := ⟨2, ![512, 512]⟩
abbrev S3x30x3333 : Shape := ⟨3, ![3, 30, 3333]⟩
abbrev S_ : Shape := ⟨0, ![]⟩
abbrev S3x32x3456 : Shape := ⟨3, ![3, 32, 3456]⟩
abbrev S3x3333 : Shape := ⟨2, ![3, 3333]⟩
abbrev S8x3456 : Shape := ⟨2, ![8, 3456]⟩
abbrev S3x512x3456 : Shape := ⟨3, ![3, 512, 3456]⟩
abbrev S8x512 : Shape := ⟨2, ![8, 512]⟩
abbrev S3x8x3456 : Shape := ⟨3, ![3, 8, 3456]⟩
abbrev S512x8 : Shape := ⟨2, ![512, 8]⟩
abbrev S32x512 : Shape := ⟨2, ![32, 512]⟩
abbrev S512x3456 : Shape := ⟨2, ![512, 3456]⟩
abbrev S1x512 : Shape := ⟨2, ![1, 512]⟩
abbrev S512x1 : Shape := ⟨2, ![512, 1]⟩
abbrev S32x3456 : Shape := ⟨2, ![32, 3456]⟩
abbrev S1x32x3456 : Shape := ⟨3, ![1, 32, 3456]⟩
abbrev S3456 : Shape := ⟨1, ![3456]⟩
abbrev S1x3456 : Shape := ⟨2, ![1, 3456]⟩
abbrev S1x1x3456 : Shape := ⟨3, ![1, 1, 3456]⟩
abbrev S1x2x3456 : Shape := ⟨3, ![1, 2, 3456]⟩
abbrev S3x3456x1000 : Shape := ⟨3, ![3, 3456, 1000]⟩
abbrev S384x1000 : Shape := ⟨2, ![384, 1000]⟩
abbrev S3x128x1000 : Shape := ⟨3, ![3, 128, 1000]⟩
abbrev S128x3x1000 : Shape := ⟨3, ![128, 3, 1000]⟩
abbrev S128x1x1000 : Shape := ⟨3, ![128, 1, 1000]⟩
abbrev S128x1000 : Shape := ⟨2, ![128, 1000]⟩
abbrev S1x128x1000 : Shape := ⟨3, ![1, 128, 1000]⟩
abbrev S1x1000 : Shape := ⟨2, ![1, 1000]⟩
abbrev S1x800 : Shape := ⟨2, ![1, 800]⟩
abbrev S1x400 : Shape := ⟨2, ![1, 400]⟩
abbrev S2x256x1 : Shape := ⟨3, ![2, 256, 1]⟩
abbrev S3x256x1152 : Shape := ⟨3, ![3, 256, 1152]⟩
abbrev S3x1152x1000 : Shape := ⟨3, ![3, 1152, 1000]⟩
abbrev S1x256x1 : Shape := ⟨3, ![1, 256, 1]⟩
abbrev S256x1000 : Shape := ⟨2, ![256, 1000]⟩
abbrev S1x256x1152 : Shape := ⟨3, ![1, 256, 1152]⟩
abbrev S256x1152 : Shape := ⟨2, ![256, 1152]⟩
abbrev S1x1152x1000 : Shape := ⟨3, ![1, 1152, 1000]⟩
abbrev S1152x1000 : Shape := ⟨2, ![1152, 1000]⟩
abbrev S256x800 : Shape := ⟨2, ![256, 800]⟩
abbrev S256x400 : Shape := ⟨2, ![256, 400]⟩
abbrev S256 : Shape := ⟨1, ![256]⟩
abbrev S256x1 : Shape := ⟨2, ![256, 1]⟩
abbrev S512 : Shape := ⟨1, ![512]⟩

abbrev nBuf : Space → Nat
  | .hbm => 31
  | .vmem => 26
  | .smem => 0
  | _ => 0

abbrev bufTy : (tb : Table) → Fin (tcTables nBuf tb) → BufTy
  | .hbm, ⟨0, _⟩ => ⟨S256x2x512, .f32⟩
  | .hbm, ⟨1, _⟩ => ⟨S256x2x512, .f32⟩
  | .hbm, ⟨2, _⟩ => ⟨S3333x30x3, .f32⟩
  | .hbm, ⟨3, _⟩ => ⟨S3333x3, .f32⟩
  | .hbm, ⟨4, _⟩ => ⟨S9999x1000, .f32⟩
  | .hbm, ⟨5, _⟩ => ⟨S1000, .f32⟩
  | .hbm, ⟨6, _⟩ => ⟨S1000x800, .f32⟩
  | .hbm, ⟨7, _⟩ => ⟨S800, .f32⟩
  | .hbm, ⟨8, _⟩ => ⟨S800x800, .f32⟩
  | .hbm, ⟨9, _⟩ => ⟨S800, .f32⟩
  | .hbm, ⟨10, _⟩ => ⟨S800x400, .f32⟩
  | .hbm, ⟨11, _⟩ => ⟨S400, .f32⟩
  | .hbm, ⟨12, _⟩ => ⟨S512x512, .f32⟩
  | .hbm, ⟨13, _⟩ => ⟨S512x512, .f32⟩
  | .hbm, ⟨14, _⟩ => ⟨S3x30x3333, .f32⟩
  | .hbm, ⟨15, _⟩ => ⟨S_, .i32⟩
  | .hbm, ⟨16, _⟩ => ⟨S_, .f32⟩
  | .hbm, ⟨17, _⟩ => ⟨S3x32x3456, .f32⟩
  | .hbm, ⟨18, _⟩ => ⟨S3x3333, .f32⟩
  | .hbm, ⟨19, _⟩ => ⟨S_, .i32⟩
  | .hbm, ⟨20, _⟩ => ⟨S_, .f32⟩
  | .hbm, ⟨21, _⟩ => ⟨S8x3456, .f32⟩
  | .hbm, ⟨22, _⟩ => ⟨S3x512x3456, .bf16⟩
  | .hbm, ⟨23, _⟩ => ⟨S3x3456x1000, .bf16⟩
  | .hbm, ⟨24, _⟩ => ⟨S1x1000, .f32⟩
  | .hbm, ⟨25, _⟩ => ⟨S1x800, .f32⟩
  | .hbm, ⟨26, _⟩ => ⟨S1x800, .f32⟩
  | .hbm, ⟨27, _⟩ => ⟨S1x400, .f32⟩
  | .hbm, ⟨28, _⟩ => ⟨S2x256x1, .f32⟩
  | .hbm, ⟨29, _⟩ => ⟨S512, .f32⟩
  | .hbm, ⟨30, _⟩ => ⟨S256, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S3x32x3456, .f32⟩
  | .local _ .vmem, ⟨5, _⟩ => ⟨S8x3456, .f32⟩
  | .local _ .vmem, ⟨6, _⟩ => ⟨S3x8x3456, .bf16⟩
  | .local _ .vmem, ⟨7, _⟩ => ⟨S3x8x3456, .bf16⟩
  | .local _ .vmem, ⟨8, _⟩ => ⟨S384x1000, .f32⟩
  | .local _ .vmem, ⟨9, _⟩ => ⟨S384x1000, .f32⟩
  | .local _ .vmem, ⟨10, _⟩ => ⟨S3x128x1000, .bf16⟩
  | .local _ .vmem, ⟨11, _⟩ => ⟨S3x128x1000, .bf16⟩
  | .local _ .vmem, ⟨12, _⟩ => ⟨S3x256x1152, .bf16⟩
  | .local _ .vmem, ⟨13, _⟩ => ⟨S3x256x1152, .bf16⟩
  | .local _ .vmem, ⟨14, _⟩ => ⟨S3x1152x1000, .bf16⟩
  | .local _ .vmem, ⟨15, _⟩ => ⟨S3x1152x1000, .bf16⟩
  | .local _ .vmem, ⟨16, _⟩ => ⟨S1x1000, .f32⟩
  | .local _ .vmem, ⟨17, _⟩ => ⟨S1000x800, .f32⟩
  | .local _ .vmem, ⟨18, _⟩ => ⟨S1x800, .f32⟩
  | .local _ .vmem, ⟨19, _⟩ => ⟨S800x800, .f32⟩
  | .local _ .vmem, ⟨20, _⟩ => ⟨S1x800, .f32⟩
  | .local _ .vmem, ⟨21, _⟩ => ⟨S800x400, .f32⟩
  | .local _ .vmem, ⟨22, _⟩ => ⟨S1x400, .f32⟩
  | .local _ .vmem, ⟨23, _⟩ => ⟨S1x256x1, .f32⟩
  | .local _ .vmem, ⟨24, _⟩ => ⟨S1x256x1, .f32⟩
  | .local _ .vmem, ⟨25, _⟩ => ⟨S256x1000, .f32⟩
  | _, _ => ⟨S256x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_call1_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg9_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem9_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x32x3456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x8x3456 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![27], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S384x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x128x1000 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 3], ![false, false]⟩

def k2_cond3 (i : grid2.Coords) : BitVec 1 :=
  let arg1 : BitVec 32 := BitVec.ofNat 32 (i 1).val
  let c2_i32 : BitVec 32 := 2#32
  let v23 : BitVec 1 := Scalar.cmpi .eq arg1 c2_i32
  let v24 : BitVec 32 := Scalar.extui v23
  let c0_i32_19 : BitVec 32 := 0#32
  let v25 : BitVec 1 := Scalar.cmpi .ne v24 c0_i32_19
  v25

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S3x256x1152 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S3x1152x1000 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1000x800 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x800 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S800x800 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x800 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S800x400 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x400 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x256x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]
-- ==== ReferenceIdeal.lean ====
abbrev S256x2x512 : Shape := ⟨3, ![256, 2, 512]⟩
abbrev S3333x30x3 : Shape := ⟨3, ![3333, 30, 3]⟩
abbrev S3333x3 : Shape := ⟨2, ![3333, 3]⟩
abbrev S9999x1000 : Shape := ⟨2, ![9999, 1000]⟩
abbrev S1000 : Shape := ⟨1, ![1000]⟩
abbrev S1000x800 : Shape := ⟨2, ![1000, 800]⟩
abbrev S800 : Shape := ⟨1, ![800]⟩
abbrev S800x800 : Shape := ⟨2, ![800, 800]⟩
abbrev S800x400 : Shape := ⟨2, ![800, 400]⟩
abbrev S400 : Shape := ⟨1, ![400]⟩
abbrev S512x512 : Shape := ⟨2, ![512, 512]⟩
abbrev S_ : Shape := ⟨0, ![]⟩
abbrev S512 : Shape := ⟨1, ![512]⟩
abbrev S512x1 : Shape := ⟨2, ![512, 1]⟩
abbrev S512x100000 : Shape := ⟨2, ![512, 100000]⟩
abbrev S512x512x1 : Shape := ⟨3, ![512, 512, 1]⟩
abbrev S512x512x2 : Shape := ⟨3, ![512, 512, 2]⟩
abbrev S512x99990 : Shape := ⟨2, ![512, 99990]⟩
abbrev S512x3333x30 : Shape := ⟨3, ![512, 3333, 30]⟩
abbrev S3333x3x512 : Shape := ⟨3, ![3333, 3, 512]⟩
abbrev S512x3333x3 : Shape := ⟨3, ![512, 3333, 3]⟩
abbrev S1x3333x3 : Shape := ⟨3, ![1, 3333, 3]⟩
abbrev S512x9999 : Shape := ⟨2, ![512, 9999]⟩
abbrev S512x1000 : Shape := ⟨2, ![512, 1000]⟩
abbrev S1x1000 : Shape := ⟨2, ![1, 1000]⟩
abbrev S512x800 : Shape := ⟨2, ![512, 800]⟩
abbrev S1x800 : Shape := ⟨2, ![1, 800]⟩
abbrev S512x400 : Shape := ⟨2, ![512, 400]⟩
abbrev S1x400 : Shape := ⟨2, ![1, 400]⟩
abbrev S256x2x400 : Shape := ⟨3, ![256, 2, 400]⟩
abbrev S256x1x400 : Shape := ⟨3, ![256, 1, 400]⟩
abbrev S256x400 : Shape := ⟨2, ![256, 400]⟩
abbrev S256 : Shape := ⟨1, ![256]⟩

abbrev nBuf : Space → Nat
  | .hbm => 121
  | .vmem => 0
  | .smem => 0
  | _ => 0

abbrev bufTy : (tb : Table) → Fin (tcTables nBuf tb) → BufTy
  | .hbm, ⟨0, _⟩ => ⟨S256x2x512, .f32⟩
  | .hbm, ⟨1, _⟩ => ⟨S256x2x512, .f32⟩
  | .hbm, ⟨2, _⟩ => ⟨S3333x30x3, .f32⟩
  | .hbm, ⟨3, _⟩ => ⟨S3333x3, .f32⟩
  | .hbm, ⟨4, _⟩ => ⟨S9999x1000, .f32⟩
  | .hbm, ⟨5, _⟩ => ⟨S1000, .f32⟩
  | .hbm, ⟨6, _⟩ => ⟨S1000x800, .f32⟩
  | .hbm, ⟨7, _⟩ => ⟨S800, .f32⟩
  | .hbm, ⟨8, _⟩ => ⟨S800x800, .f32⟩
  | .hbm, ⟨9, _⟩ => ⟨S800, .f32⟩
  | .hbm, ⟨10, _⟩ => ⟨S800x400, .f32⟩
  | .hbm, ⟨11, _⟩ => ⟨S400, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .i1⟩
  | .hbm, ⟨17, _⟩ => ⟨S_, .f32⟩
  | .hbm, ⟨18, _⟩ => ⟨S512x512, .f32⟩
  | .hbm, ⟨19, _⟩ => ⟨S512x512, .i1⟩
  | .hbm, ⟨20, _⟩ => ⟨S512x512, .i1⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x512, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S512x512, .i32⟩
  | .hbm, ⟨32, _⟩ => ⟨S512x512, .i32⟩
  | .hbm, ⟨33, _⟩ => ⟨S_, .i32⟩
  | .hbm, ⟨34, _⟩ => ⟨S512x512, .i32⟩
  | .hbm, ⟨35, _⟩ => ⟨S512x512, .i32⟩
  | .hbm, ⟨36, _⟩ => ⟨S512x512, .f32⟩
  | .hbm, ⟨37, _⟩ => ⟨S_, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512, .i32⟩
  | .hbm, ⟨42, _⟩ => ⟨S512x1, .i32⟩
  | .hbm, ⟨43, _⟩ => ⟨S_, .f32⟩
  | .hbm, ⟨44, _⟩ => ⟨S512x100000, .f32⟩
  | .hbm, ⟨45, _⟩ => ⟨S_, .i32⟩
  | .hbm, ⟨46, _⟩ => ⟨S512x1, .i32⟩
  | .hbm, ⟨47, _⟩ => ⟨S512x1, .i1⟩
  | .hbm, ⟨48, _⟩ => ⟨S_, .i32⟩
  | .hbm, ⟨49, _⟩ => ⟨S512x1, .i32⟩
  | .hbm, ⟨50, _⟩ => ⟨S512x1, .i32⟩
  | .hbm, ⟨51, _⟩ => ⟨S512x1, .i32⟩
  | .hbm, ⟨52, _⟩ => ⟨S_, .i32⟩
  | .hbm, ⟨53, _⟩ => ⟨S512x512, .i32⟩
  | .hbm, ⟨54, _⟩ => ⟨S512x512, .i1⟩
  | .hbm, ⟨55, _⟩ => ⟨S_, .i32⟩
  | .hbm, ⟨56, _⟩ => ⟨S512x512, .i32⟩
  | .hbm, ⟨57, _⟩ => ⟨S512x512, .i32⟩
  | .hbm, ⟨58, _⟩ => ⟨S512x512, .i32⟩
  | .hbm, ⟨59, _⟩ => ⟨S512x512, .i32⟩
  | .hbm, ⟨60, _⟩ => ⟨S512x512x1, .i32⟩
  | .hbm, ⟨61, _⟩ => ⟨S512x512x1, .i32⟩
  | .hbm, ⟨62, _⟩ => ⟨S512x512x2, .i32⟩
  | .hbm, ⟨63, _⟩ => ⟨S512x100000, .f32⟩
  | .hbm, ⟨64, _⟩ => ⟨S512x99990, .f32⟩
  | .hbm, ⟨65, _⟩ => ⟨S512x3333x30, .f32⟩
  | .hbm, ⟨66, _⟩ => ⟨S3333x3x512, .f32⟩
  | .hbm, ⟨67, _⟩ => ⟨S512x3333x3, .f32⟩
  | .hbm, ⟨68, _⟩ => ⟨S1x3333x3, .f32⟩
  | .hbm, ⟨69, _⟩ => ⟨S512x3333x3, .f32⟩
  | .hbm, ⟨70, _⟩ => ⟨S512x3333x3, .f32⟩
  | .hbm, ⟨71, _⟩ => ⟨S512x9999, .f32⟩
  | .hbm, ⟨72, _⟩ => ⟨S512x1000, .f32⟩
  | .hbm, ⟨73, _⟩ => ⟨S1x1000, .f32⟩
  | .hbm, ⟨74, _⟩ => ⟨S512x1000, .f32⟩
  | .hbm, ⟨75, _⟩ => ⟨S512x1000, .f32⟩
  | .hbm, ⟨76, _⟩ => ⟨S_, .f32⟩
  | .hbm, ⟨77, _⟩ => ⟨S512x1000, .f32⟩
  | .hbm, ⟨78, _⟩ => ⟨S512x1000, .f32⟩
  | .hbm, ⟨79, _⟩ => ⟨S512x800, .f32⟩
  | .hbm, ⟨80, _⟩ => ⟨S1x800, .f32⟩
  | .hbm, ⟨81, _⟩ => ⟨S512x800, .f32⟩
  | .hbm, ⟨82, _⟩ => ⟨S512x800, .f32⟩
  | .hbm, ⟨83, _⟩ => ⟨S_, .f32⟩
  | .hbm, ⟨84, _⟩ => ⟨S512x800, .f32⟩
  | .hbm, ⟨85, _⟩ => ⟨S512x800, .f32⟩
  | .hbm, ⟨86, _⟩ => ⟨S512x800, .f32⟩
  | .hbm, ⟨87, _⟩ => ⟨S1x800, .f32⟩
  | .hbm, ⟨88, _⟩ => ⟨S512x800, .f32⟩
  | .hbm, ⟨89, _⟩ => ⟨S512x800, .f32⟩
  | .hbm, ⟨90, _⟩ => ⟨S_, .f32⟩
  | .hbm, ⟨91, _⟩ => ⟨S512x800, .f32⟩
  | .hbm, ⟨92, _⟩ => ⟨S512x800, .f32⟩
  | .hbm, ⟨93, _⟩ => ⟨S512x400, .f32⟩
  | .hbm, ⟨94, _⟩ => ⟨S1x400, .f32⟩
  | .hbm, ⟨95, _⟩ => ⟨S512x400, .f32⟩
  | .hbm, ⟨96, _⟩ => ⟨S512x400, .f32⟩
  | .hbm, ⟨97, _⟩ => ⟨S256x2x400, .f32⟩
  | .hbm, ⟨98, _⟩ => ⟨S256x1x400, .f32⟩
  | .hbm, ⟨99, _⟩ => ⟨S256x400, .f32⟩
  | .hbm, ⟨100, _⟩ => ⟨S256x1x400, .f32⟩
  | .hbm, ⟨101, _⟩ => ⟨S256x400, .f32⟩
  | .hbm, ⟨102, _⟩ => ⟨S256x400, .f32⟩
  | .hbm, ⟨103, _⟩ => ⟨S_, .f32⟩
  | .hbm, ⟨104, _⟩ => ⟨S256, .f32⟩
  | .hbm, ⟨105, _⟩ => ⟨S256, .f32⟩
  | .hbm, ⟨106, _⟩ => ⟨S_, .f32⟩
  | .hbm, ⟨107, _⟩ => ⟨S256, .f32⟩
  | .hbm, ⟨108, _⟩ => ⟨S256, .f32⟩
  | .hbm, ⟨109, _⟩ => ⟨S256x400, .f32⟩
  | .hbm, ⟨110, _⟩ => ⟨S_, .f32⟩
  | .hbm, ⟨111, _⟩ => ⟨S256, .f32⟩
  | .hbm, ⟨112, _⟩ => ⟨S256, .f32⟩
  | .hbm, ⟨113, _⟩ => ⟨S_, .f32⟩
  | .hbm, ⟨114, _⟩ => ⟨S256, .f32⟩
  | .hbm, ⟨115, _⟩ => ⟨S256, .f32⟩
  | .hbm, ⟨116, _⟩ => ⟨S256x400, .f32⟩
  | .hbm, ⟨117, _⟩ => ⟨S_, .f32⟩
  | .hbm, ⟨118, _⟩ => ⟨S256, .f32⟩
  | .hbm, ⟨119, _⟩ => ⟨S256, .f32⟩
  | .hbm, ⟨120, _⟩ => ⟨S256, .f32⟩
  | _, _ => ⟨S256x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v12 : Ref sig .tc := ⟨.hbm, 35, rfl⟩
abbrev main_v13 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_5 : Ref sig .tc := ⟨.hbm, 43, rfl⟩
abbrev main_v17 : Ref sig .tc := ⟨.hbm, 44, rfl⟩
abbrev main_c_6 : Ref sig .tc := ⟨.hbm, 45, rfl⟩
abbrev main_v18 : Ref sig .tc := ⟨.hbm, 46, rfl⟩
abbrev main_v19 : Ref sig .tc := ⟨.hbm, 47, rfl⟩
abbrev main_c_7 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_8 : Ref sig .tc := ⟨.hbm, 52, rfl⟩
abbrev main_v23 : Ref sig .tc := ⟨.hbm, 53, rfl⟩
abbrev main_v24 : Ref sig .tc := ⟨.hbm, 54, rfl⟩
abbrev main_c_9 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call2_cst : Ref sig .tc := ⟨.hbm, 76, rfl⟩
abbrev main_call2_v0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call3_cst : Ref sig .tc := ⟨.hbm, 83, rfl⟩
abbrev main_call3_v0 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call4_cst : Ref sig .tc := ⟨.hbm, 90, rfl⟩
abbrev main_call4_v0 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call5_v0 : Ref sig .tc := ⟨.hbm, 102, rfl⟩
abbrev main_call5_cst : Ref sig .tc := ⟨.hbm, 103, rfl⟩
abbrev main_call5_v1 : Ref sig .tc := ⟨.hbm, 104, rfl⟩
abbrev main_v65 : Ref sig .tc := ⟨.hbm, 105, rfl⟩
abbrev main_cst_10 : Ref sig .tc := ⟨.hbm, 106, rfl⟩
abbrev main_v66 : Ref sig .tc := ⟨.hbm, 107, rfl⟩
abbrev main_v67 : Ref sig .tc := ⟨.hbm, 108, rfl⟩
abbrev main_call6_v0 : Ref sig .tc := ⟨.hbm, 109, rfl⟩
abbrev main_call6_cst : Ref sig .tc := ⟨.hbm, 110, rfl⟩
abbrev main_call6_v1 : Ref sig .tc := ⟨.hbm, 111, rfl⟩
abbrev main_v68 : Ref sig .tc := ⟨.hbm, 112, rfl⟩
abbrev main_cst_11 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_12 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩

abbrev nD : Nat := 1
abbrev τ : Topo := Topo.v7x

variable {F : FTy → Type} [FloatOps F]
-- ==== Proof.BinFill.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.ValueIdxCore
public import Idealize.ShloMosaic.Lib.Pointwise

/-! The first call of the kernel, on one block of eight spectra: what its body stores, as one function of the blocks it
reads. The body stores its 24 rows one after another, two sharing a word, so an odd row is stored together with the
even row beside it; `Filled` says what the stores made so far leave behind. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The 30 bin heights of every group, for spectrum `s` of the block: row `i`, column `g` is bin `i` of group `g`. -/
def binSums (x1 x2 : Vec F S8x512 .f32) (s : Fin 8) : FVec F S32x3456 .f32 :=
  matmul dot_S32x512_S512x3456_S32x3456_1_0_0_1_n_n none
    (select
      (cmpi .eq (iota .tc S32x512 16 [0] iota_S32x512_d0_w16)
        (broadcastTo S32x512
          (extractStridedSlice S1x512 ![s.val, 0] (k0_pay10 (k0_pay8 x1) (k0_pay9 x1)) (by fin_cases s <;> decide))
          broadcasts_S1x512_S32x512))
      (broadcast S32x512 (Scalar.ofBits .bf16 0x3F80#16 : F .bf16))
      (broadcast S32x512 (Scalar.ofBits .bf16 0x0000#16 : F .bf16)))
    (select
      (cmpi .eq (iota .tc S512x3456 16 [1] iota_S512x3456_d1_w16)
        (broadcastTo S512x3456
          (extractStridedSlice S512x1 ![0, s.val] (k0_pay6 (k0_pay2 x1) 30#32 (k0_pay4 x1) (k0_pay5 x1))
            (by fin_cases s <;> decide))
          broadcasts_S512x1_S512x3456))
      (broadcastTo S512x3456
        (shapeCast S512x1
          (extractStridedSlice S512x1 ![0, s.val] (k0_pay7 (k0_pay3 x1 x2)) (by fin_cases s <;> decide))
          shapeCasts_S512x1_S512x1)
        broadcasts_S512x1_S512x3456)
      (broadcast S512x3456 (Scalar.ofBits .bf16 0x0000#16 : F .bf16)))
    (constant S32x3456 .f32 0x00000000#32)

/-- The position of group `n` in a stored row. -/
def inRow (n : Fin 3456) : S1x1x3456.Idx := ix3 0 0 n

/-- Group `n` in row `r` of a stored pair of rows. -/
def pair (r : Fin 2) (n : Fin 3456) : S1x2x3456.Idx := ix3 0 r n

/-- Group `n` of spectrum `s` in output plane `o`. -/
def inOut (o : Fin 3) (s : Fin 8) (n : Fin 3456) : S3x8x3456.Idx := ix3 o s n

/-- Plane `o` of the weights. -/
def wPlane (x3 : Vec F S3x32x3456 .f32) (o : Fin 3) : Vec F S1x32x3456 .f32 := fun j => x3 (ix3 o (j 1) (j 2))

/-- Row `o` of the biases. -/
def bRow (x4 : Vec F S8x3456 .f32) (o : Fin 3) : Vec F S1x3456 .f32 := fun j => x4 (ix2 ⟨o.val, by omega⟩ (j 1))

/-- The block the body leaves: plane `o`, row `s`. -/
def binOut (x1 x2 : Vec F S8x512 .f32) (x3 : Vec F S3x32x3456 .f32) (x4 : Vec F S8x3456 .f32) : Vec F S3x8x3456 .bf16 :=
  fun y => k0_pay16 (binSums x1 x2 (y 1)) (wPlane x3 (y 0)) (bRow x4 (y 0)) (inRow (y 2))

section Filled

variable {κ : Kind} {sp : Space} (v : View sig κ sp S3x8x3456 .bf16) (G : Vec F S3x8x3456 .bf16)

/-- The stores `L` leave the first `k` rows of `G`, counting the planes of a spectrum first. -/
def Filled (L : List (View.Piece (Elt F) S3x8x3456 .bf16)) (k : ℕ) : Prop :=
  ∀ (f : v.ty.Contents (Elt F)) (y : S3x8x3456.Idx), 3 * (y 1).val + (y 0).val < k →
    v.read (Elt F) (v.writes (Elt F) f L) y = G y

variable {v G}

theorem Filled.nil : Filled v G [] 0 := fun _ _ h => absurd h (Nat.not_lt_zero _)

/-- An even row, whatever was beside it. -/
theorem Filled.even {L : List (View.Piece (Elt F) S3x8x3456 .bf16)} {o s : ℕ} (h : Filled v G L (3 * s + o)) (ho : o < 3)
    (hs : s + 1 < 8) {off : Fin 3 → ℕ} (hoff : off = ![o, s, 0])
    {inb : ∀ a, off a + S1x2x3456.size a ≤ S3x8x3456.size a}
    {w : Vec F S1x1x3456 .bf16} {old : Vec F S1x2x3456 .bf16} {hsl : S1x2x3456.Slices ![0, 0, 0] S1x1x3456}
    (hw : ∀ n, w (inRow n) = G (inOut ⟨o, ho⟩ ⟨s, by omega⟩ n)) :
    Filled v G ((⟨Rect.unit off S1x2x3456.size inb, updateSlice old w ![0, 0, 0] hsl⟩ :
      View.Piece (Elt F) S3x8x3456 .bf16) :: L) (3 * s + o + 1) := by
  intro f y hy
  subst hoff
  have h0 : (y 0).val < 3 := (y 0).isLt
  have h2 : (y 2).val < 3456 := (y 2).isLt
  by_cases hc : (y 0).val = o ∧ (y 1).val = s
  · have hx : ∀ a : Fin 3, (y a).val = (![o, s, 0] : Fin 3 → ℕ) a + ((pair 0 (y 2)) a).val := by
      intro a
      fin_cases a
      · exact hc.1
      · exact hc.2
      · exact (Nat.zero_add _).symm
    refine (View.read_writes_cons_unit_of_mem v f inb _ L y (pair 0 (y 2)) rfl hx).trans ?_
    rw [updateSlice_apply, dif_pos (by
      intro a
      fin_cases a
      · exact ⟨Nat.zero_le _, Nat.one_pos⟩
      · exact ⟨Nat.zero_le _, Nat.one_pos⟩
      · exact ⟨Nat.zero_le _, by show (y 2).val < 0 + 3456; omega⟩)]
    have e : (inOut ⟨o, ho⟩ ⟨s, by omega⟩ (y 2)) = y := by
      funext a
      apply Fin.ext
      fin_cases a
      · exact hc.1.symm
      · exact hc.2.symm
      · rfl
    refine Eq.trans (congrArg w ?_) ((hw (y 2)).trans (congrArg G e))
    funext a
    apply Fin.ext
    fin_cases a <;> rfl
  · have hlt : 3 * (y 1).val + (y 0).val < 3 * s + o := by omega
    by_cases h1 : (y 0).val = o
    · exact (View.read_writes_cons_unit_of_not_mem v f inb _ L y rfl 1 (.inl (by show (y 1).val < s; omega))).trans
        (h f y hlt)
    · exact (View.read_writes_cons_unit_of_not_mem v f inb _ L y rfl 0
        (by show (y 0).val < o ∨ o + 1 ≤ (y 0).val; omega)).trans (h f y hlt)

/-- An odd row, beside the even one as it was read back. -/
theorem Filled.odd {L : List (View.Piece (Elt F) S3x8x3456 .bf16)} {o s : ℕ} (h : Filled v G L (3 * (s + 1) + o))
    (ho : o < 3) (hs : s + 1 < 8) {off : Fin 3 → ℕ} (hoff : off = ![o, s, 0])
    {inb inb' : ∀ a, off a + S1x2x3456.size a ≤ S3x8x3456.size a}
    {w : Vec F S1x1x3456 .bf16} {hsl : S1x2x3456.Slices ![0, 1, 0] S1x1x3456}
    (hw : ∀ n, w (inRow n) = G (inOut ⟨o, ho⟩ ⟨s + 1, hs⟩ n)) :
    Filled v G ((⟨Rect.unit off S1x2x3456.size inb,
        updateSlice (v.readCov L (Rect.unit (s := S3x8x3456) off S1x2x3456.size inb').toLoadRect : Vec F S1x2x3456 .bf16) w ![0, 1, 0] hsl⟩ :
      View.Piece (Elt F) S3x8x3456 .bf16) :: L) (3 * (s + 1) + o + 1) := by
  intro f y hy
  subst hoff
  have h0 : (y 0).val < 3 := (y 0).isLt
  have h2 : (y 2).val < 3456 := (y 2).isLt
  by_cases hc : (y 0).val = o ∧ (y 1).val = s + 1
  · have hx : ∀ a : Fin 3, (y a).val = (![o, s, 0] : Fin 3 → ℕ) a + ((pair 1 (y 2)) a).val := by
      intro a
      fin_cases a
      · exact hc.1
      · exact hc.2
      · exact (Nat.zero_add _).symm
    refine (View.read_writes_cons_unit_of_mem v f inb _ L y (pair 1 (y 2)) rfl hx).trans ?_
    rw [updateSlice_apply, dif_pos (by
      intro a
      fin_cases a
      · exact ⟨Nat.zero_le _, Nat.one_pos⟩
      · exact ⟨Nat.le_refl _, Nat.lt_succ_self _⟩
      · exact ⟨Nat.zero_le _, by show (y 2).val < 0 + 3456; omega⟩)]
    have e : (inOut ⟨o, ho⟩ ⟨s + 1, hs⟩ (y 2)) = y := by
      funext a
      apply Fin.ext
      fin_cases a
      · exact hc.1.symm
      · exact hc.2.symm
      · rfl
    refine Eq.trans (congrArg w ?_) ((hw (y 2)).trans (congrArg G e))
    funext a
    apply Fin.ext
    fin_cases a <;> rfl
  · have hlt : 3 * (y 1).val + (y 0).val < 3 * (s + 1) + o := by omega
    by_cases h1 : (y 0).val = o
    · by_cases h3 : (y 1).val = s
      · have hx : ∀ a : Fin 3, (y a).val = (![o, s, 0] : Fin 3 → ℕ) a + ((pair 0 (y 2)) a).val := by
          intro a
          fin_cases a
          · exact h1
          · exact h3
          · exact (Nat.zero_add _).symm
        refine (View.read_writes_cons_unit_of_mem v f inb _ L y (pair 0 (y 2)) rfl hx).trans ?_
        rw [updateSlice_apply, dif_neg (fun hh => by
          have h4 : 1 ≤ 0 := (hh 1).1
          omega)]
        refine Eq.trans ?_ (h v.junk y hlt)
        refine congrArg (v.read (Elt F) (v.writes (Elt F) v.junk L)) ?_
        funext a
        apply Fin.ext
        refine Eq.trans ?_ (hx a).symm
        show (![o, s, 0] : Fin 3 → ℕ) a + 1 * ((pair 0 (y 2)) a).val = _
        rw [Nat.one_mul]
      · exact (View.read_writes_cons_unit_of_not_mem v f inb _ L y rfl 1 (.inl (by show (y 1).val < s; omega))).trans
          (h f y hlt)
    · exact (View.read_writes_cons_unit_of_not_mem v f inb _ L y rfl 0
        (by show (y 0).val < o ∨ o + 1 ≤ (y 0).val; omega)).trans (h f y hlt)

/-- With all 24 rows stored the block is `G`. -/
theorem Filled.all {L : List (View.Piece (Elt F) S3x8x3456 .bf16)} (h : Filled v G L 24) (f : v.ty.Contents (Elt F)) :
    v.read (Elt F) (v.writes (Elt F) f L) = G := by
  funext y
  have h0 : (y 0).val < 3 := (y 0).isLt
  have h1 : (y 1).val < 8 := (y 1).isLt
  exact h f y (by omega)

end Filled

end Cert.KernelIdeal.Hand
-- ==== Proof.BinBody.lean ====
module

public import proofs.«01_k».proof.Proof.BinFill
public import Idealize.ShloMosaic.Lib.WholeRead

/-! The run of the first call's body: held at the blocks it reads, it leaves `binOut` of them in the output block. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resources the triples speak of. -/
abbrev Mt (F : FTy → Type) := MT nD τ sig Unit (Elt F) ℕ (UR sig nD τ) ℕ

/-- A memref whose buffer holds what reads `x` is owned at `x`. -/
theorem owns_of_unread {sp : Space} {s : Shape} {e : EltTy} (c : Dev nD) {m : Memref sig .tc sp s e} (h : m.IsWhole) (x : Vec F s e) :
    (m.view.loc (c : Thread nD τ) ↦[m.view.set]{fullShare} h.unread x : sProp (Mt F))
      ⊢ iprop(∃ f, ⌜m.view.read (Elt F) f = x⌝ ∗ m.view.loc (c : Thread nD τ) ↦[m.view.set]{fullShare} f) := by
  iintro H
  iexists _
  isplitr
  · ipureintro; exact h.read_unread _
  iexact H

/-- One stored row, from what its loads read. -/
theorem row_eq {x1 x2 l1 l2 : Vec F S8x512 .f32} {x3 : Vec F S3x32x3456 .f32} {x4 : Vec F S8x3456 .f32}
    {lw : Vec F S1x32x3456 .f32} {lb : Vec F S1x3456 .f32} (o : Fin 3) (s : Fin 8)
    (h1 : l1 = x1) (h2 : l2 = x2) (hw : lw = wPlane x3 o) (hb : lb = bRow x4 o) (n : Fin 3456) :
    k0_pay16 (binSums l1 l2 s) lw lb (inRow n) = binOut x1 x2 x3 x4 (inOut o s n) := by
  subst h1 h2 hw hb
  rfl

/-- A whole block of eight rows, loaded. -/
theorem load_rows {m : Memref sig .tc .vmem S8x512 .f32} (h : m.IsWhole) (x : Vec F S8x512 .f32) :
    m.view.readAt (Elt F) (Rect.unit (s := S8x512) ![0, 0] S8x512.size inb_S8x512_S8x512_0_0).toLoadRect (h.unread x) = x := by
  funext j
  refine (h.readAt_unread x _ j).trans (congrArg x ?_)
  funext a
  apply Fin.ext
  show (![0, 0] : Fin 2 → ℕ) a + 1 * (j a).val = (j a).val
  fin_cases a <;> exact (Nat.zero_add _).trans (Nat.one_mul _)

/-- A plane of the weights, loaded. -/
theorem load_plane {m : Memref sig .tc .vmem S3x32x3456 .f32} (h : m.IsWhole) (x : Vec F S3x32x3456 .f32) (o : Fin 3)
    (inb : ∀ a, (![o.val, 0, 0] : Fin 3 → ℕ) a + S1x32x3456.size a ≤ S3x32x3456.size a) :
    m.view.readAt (Elt F) (Rect.unit (s := S3x32x3456) ![o.val, 0, 0] S1x32x3456.size inb).toLoadRect (h.unread x)
      = wPlane x o := by
  funext j
  refine (h.readAt_unread x _ j).trans (congrArg x ?_)
  funext a
  apply Fin.ext
  show (![o.val, 0, 0] : Fin 3 → ℕ) a + 1 * (j a).val = _
  have h0 : (j 0).val < 1 := (j 0).isLt
  fin_cases a
  · show o.val + 1 * (j 0).val = o.val
    omega
  · exact (Nat.zero_add _).trans (Nat.one_mul _)
  · exact (Nat.zero_add _).trans (Nat.one_mul _)

/-- A row of the biases, loaded. -/
theorem load_bias {m : Memref sig .tc .vmem S8x3456 .f32} (h : m.IsWhole) (x : Vec F S8x3456 .f32) (o : Fin 3)
    (inb : ∀ a, (![o.val, 0] : Fin 2 → ℕ) a + S1x3456.size a ≤ S8x3456.size a) :
    m.view.readAt (Elt F) (Rect.unit (s := S8x3456) ![o.val, 0] S1x3456.size inb).toLoadRect (h.unread x)
      = bRow x o := by
  funext j
  refine (h.readAt_unread x _ j).trans (congrArg x ?_)
  funext a
  apply Fin.ext
  show (![o.val, 0] : Fin 2 → ℕ) a + 1 * (j a).val = _
  have h0 : (j 0).val < 1 := (j 0).isLt
  fin_cases a
  · show o.val + 1 * (j 0).val = o.val
    omega
  · exact (Nat.zero_add _).trans (Nat.one_mul _)

set_option maxHeartbeats 4000000 in
theorem binRun (c : Dev nD) (i : grid0.Coords) (arg1 : Memref sig .tc .vmem S8x512 .f32) (harg1 : arg1.IsWhole)
    (arg2 : Memref sig .tc .vmem S8x512 .f32) (harg2 : arg2.IsWhole) (arg3 : Memref sig .tc .vmem S3x32x3456 .f32)
    (harg3 : arg3.IsWhole) (arg4 : Memref sig .tc .vmem S8x3456 .f32) (harg4 : arg4.IsWhole)
    (arg5 : Memref sig .tc .vmem S3x8x3456 .bf16) (harg5 : arg5.IsWhole)
    (x1 x2 : Vec F S8x512 .f32) (x3 : Vec F S3x32x3456 .f32) (x4 : Vec F S8x3456 .f32)
    (E : Set ℕ) (K : PUnit → sProp (Mt F)) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (binOut x1 x2 x3 x4)) -∗ K ⟨⟩))
      ⊢ wp frame (wpE (defs₀ (F := F)) Variants.none c none) E
          (cc0_bin_onehot i arg1 harg1 arg2 harg2 arg3 harg3 arg4 harg4 arg5 harg5) K := by
  simp only [cc0_bin_onehot_eq_skeleton]
  unfold cc0_bin_onehot_skel owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1
  obtain rfl := harg2.eq_unread hf2
  obtain rfl := harg3.eq_unread hf3
  obtain rfl := harg4.eq_unread hf4
  sl_exec
  sl_step
  iapply Hk
  isplitl [H1]
  · iapply (owns_of_unread c harg1 x1) $$ H1
  isplitl [H2]
  · iapply (owns_of_unread c harg2 x2) $$ H2
  isplitl [H3]
  · iapply (owns_of_unread c harg3 x3) $$ H3
  isplitl [H4]
  · iapply (owns_of_unread c harg4 x4) $$ H4
  iexists _
  isplitr
  swap
  · iexact H5
  ipureintro
  have h1 := load_rows harg1 x1
  have h2 := load_rows harg2 x2
  have hw := load_plane harg3 x3
  have hb := load_bias harg4 x4
  exact Filled.all (
    Filled.odd (o := 2) (s := 6) (Filled.odd (o := 1) (s := 6) (Filled.odd (o := 0) (s := 6) (Filled.even (o := 2) (s := 6) (Filled.even (o := 1) (s := 6) (Filled.even (o := 0) (s := 6) (Filled.odd (o := 2) (s := 4) (Filled.odd (o := 1) (s := 4) (Filled.odd (o := 0) (s := 4) (Filled.even (o := 2) (s := 4) (Filled.even (o := 1) (s := 4) (Filled.even (o := 0) (s := 4) (Filled.odd (o := 2) (s := 2) (Filled.odd (o := 1) (s := 2) (Filled.odd (o := 0) (s := 2) (Filled.even (o := 2) (s := 2) (Filled.even (o := 1) (s := 2) (Filled.even (o := 0) (s := 2) (Filled.odd (o := 2) (s := 0) (Filled.odd (o := 1) (s := 0) (Filled.odd (o := 0) (s := 0) (Filled.even (o := 2) (s := 0) (Filled.even (o := 1) (s := 0) (Filled.even (o := 0) (s := 0) (Filled.nil) (by decide) (by decide) rfl
          (row_eq 0 0 h1 h2 (hw 0 _) (hb 0 _))) (by decide) (by decide) rfl
          (row_eq 1 0 h1 h2 (hw 1 _) (hb 1 _))) (by decide) (by decide) rfl
          (row_eq 2 0 h1 h2 (hw 2 _) (hb 2 _))) (by decide) (by decide) rfl
          (row_eq 0 1 h1 h2 (hw 0 _) (hb 0 _))) (by decide) (by decide) rfl
          (row_eq 1 1 h1 h2 (hw 1 _) (hb 1 _))) (by decide) (by decide) rfl
          (row_eq 2 1 h1 h2 (hw 2 _) (hb 2 _))) (by decide) (by decide) rfl
          (row_eq 0 2 h1 h2 (hw 0 _) (hb 0 _))) (by decide) (by decide) rfl
          (row_eq 1 2 h1 h2 (hw 1 _) (hb 1 _))) (by decide) (by decide) rfl
          (row_eq 2 2 h1 h2 (hw 2 _) (hb 2 _))) (by decide) (by decide) rfl
          (row_eq 0 3 h1 h2 (hw 0 _) (hb 0 _))) (by decide) (by decide) rfl
          (row_eq 1 3 h1 h2 (hw 1 _) (hb 1 _))) (by decide) (by decide) rfl
          (row_eq 2 3 h1 h2 (hw 2 _) (hb 2 _))) (by decide) (by decide) rfl
          (row_eq 0 4 h1 h2 (hw 0 _) (hb 0 _))) (by decide) (by decide) rfl
          (row_eq 1 4 h1 h2 (hw 1 _) (hb 1 _))) (by decide) (by decide) rfl
          (row_eq 2 4 h1 h2 (hw 2 _) (hb 2 _))) (by decide) (by decide) rfl
          (row_eq 0 5 h1 h2 (hw 0 _) (hb 0 _))) (by decide) (by decide) rfl
          (row_eq 1 5 h1 h2 (hw 1 _) (hb 1 _))) (by decide) (by decide) rfl
          (row_eq 2 5 h1 h2 (hw 2 _) (hb 2 _))) (by decide) (by decide) rfl
          (row_eq 0 6 h1 h2 (hw 0 _) (hb 0 _))) (by decide) (by decide) rfl
          (row_eq 1 6 h1 h2 (hw 1 _) (hb 1 _))) (by decide) (by decide) rfl
          (row_eq 2 6 h1 h2 (hw 2 _) (hb 2 _))) (by decide) (by decide) rfl
          (row_eq 0 7 h1 h2 (hw 0 _) (hb 0 _))) (by decide) (by decide) rfl
          (row_eq 1 7 h1 h2 (hw 1 _) (hb 1 _))) (by decide) (by decide) rfl
          (row_eq 2 7 h1 h2 (hw 2 _) (hb 2 _))) f5

end Cert.KernelIdeal.Hand
-- ==== Proof.BinPoints.lean ====
module

public import proofs.«01_k».proof.Proof.BinBody
public import proofs.«01_k».proof.Proof.Gen.KernelIdeal.Launch
public import proofs.«01_k».proof.Proof.Gen.KernelIdeal.Points
public import Idealize.ShloMosaic.Lib.Pipeline.FrameBody

/-! The first call at a point of its grid: the inputs' buffers hold their blocks, and the body fills the result's. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

/-- The contents of the host's and the calls' arrays, on each device. -/
abbrev Arrays (F : FTy → Type) := (c : Dev nD) → (b : Ref sig .tc) → Buf (Elt F) ((c : Thread nD τ).loc b)

variable (V : Arrays F) (c : Dev nD)

/-- A window's block at a point, out of the array the window is of. -/
def blk0 (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in a window's buffer. -/
def dat0 : Dat τ (Elt F) Unit ℕ (UR sig nD τ) ℕ cfg0 c where
  A w := V c (Pipeline.arrRef spec0 w)
  after := fun
    | 0 => fun t => blk0 V c 0 t
    | 1 => fun t => blk0 V c 1 t
    | 2 => fun t => blk0 V c 2 t
    | 3 => fun t => blk0 V c 3 t
    | 4 => fun t => binOut (blk0 V c 0 t) (blk0 V c 1 t) (blk0 V c 2 t) (blk0 V c 3 t)
    | ⟨_ + 5, h⟩ => absurd h (Nat.not_lt.2 (Nat.le_add_left _ _))
  Φ _ := Pipeline.scopedRest spec0 c
  q _ := fullShare
  owed _ := 0

theorem found0_0 (t : Fin cfg0.N) (d) : (dat0 V c).before 0 t d = blk0 V c 0 t :=
  (dat0 V c).before_in_eq_fetched 0 rfl (fun _ => rfl) (fun _ _ _ => rfl) (fun _ => rfl) t d
theorem found0_1 (t : Fin cfg0.N) (d) : (dat0 V c).before 1 t d = blk0 V c 1 t :=
  (dat0 V c).before_in_eq_fetched 1 rfl (fun _ => rfl) (fun _ _ _ => rfl) (fun _ => rfl) t d
theorem found0_2 (t : Fin cfg0.N) (d) : (dat0 V c).before 2 t d = blk0 V c 2 t :=
  (dat0 V c).before_in_eq_fetched 2 rfl (fun _ => rfl) (fun _ _ _ => rfl) (fun _ => rfl) t d
theorem found0_3 (t : Fin cfg0.N) (d) : (dat0 V c).before 3 t d = blk0 V c 3 t :=
  (dat0 V c).before_in_eq_fetched 3 rfl (fun _ => rfl) (fun _ _ _ => rfl) (fun _ => rfl) t d

/-- The first call's body at every point. -/
theorem body0 : BodyObligation (dat0 V c) (defs₀ (F := F)) Variants.none () Set.univ := fun t => by
  rw [bigSep_W0, bigSep_W0]
  show _ ⊢ wp frame (wpE (defs₀ (F := F)) Variants.none c none) Set.univ (bodyAt0 t) _
  simp only [found0_0, found0_1, found0_2, found0_3]
  rw [show (dat0 V c).Φ t.succ = (dat0 V c).Φ t.castSucc from rfl,
    show (dat0 V c).owesAt () t.succ = (dat0 V c).owesAt () t.castSucc from rfl]
  iintro ⟨HP, HO, ⟨%d0, H0⟩, ⟨%d1, H1⟩, ⟨%d2, H2⟩, ⟨%d3, H3⟩, ⟨%d4, H4⟩⟩
  iapply (binRun c (grid0.coords t) _ _ _ _ _ _ _ _ _ _ (blk0 V c 0 t) (blk0 V c 1 t) (blk0 V c 2 t) (blk0 V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HP]; · iexact HP
  isplitl [HO]; · iexact HO
  isplitl [H0]; · iexact H0
  isplitl [H1]; · iexact H1
  isplitl [H2]; · iexact H2
  isplitl [H3]; · iexact H3
  iexact H4

end Cert.KernelIdeal.Hand
-- ==== Proof.Blocks.lean ====
module

public import proofs.«01_k».proof.Proof.BinBody

/-! Loads and stores of whole blocks and of planes of a block, as the bodies of the second and third call make them. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

section Loads

variable {sp : Space} {s : Shape} {e : EltTy}

/-- The index a rectangle at the origin gives is the index itself. -/
theorem origin_idx {off : Fin s.rank → ℕ} (h0 : ∀ a, off a = 0) (inb : ∀ a, off a + s.size a ≤ s.size a) (j : s.Idx) :
    (Rect.unit (s := s) off s.size inb).toLoadRect.idx j = j := by
  funext a
  apply Fin.ext
  show off a + 1 * (j a).val = (j a).val
  rw [h0 a, Nat.zero_add, Nat.one_mul]

/-- A load of all of a block. -/
theorem load_all {m : Memref sig .tc sp s e} (h : m.IsWhole) (x : Vec F s e) {off : Fin s.rank → ℕ} (h0 : ∀ a, off a = 0)
    (inb : ∀ a, off a + s.size a ≤ s.size a) :
    m.view.readAt (Elt F) (Rect.unit (s := s) off s.size inb).toLoadRect (h.unread x) = x := by
  funext j
  exact (h.readAt_unread x _ j).trans (congrArg x (origin_idx h0 inb j))

/-- A store over all of a block. -/
theorem store_all {κ : Kind} (v : View sig κ sp s e) (f : v.ty.Contents (Elt F)) {off : Fin s.rank → ℕ} (h0 : ∀ a, off a = 0)
    (inb : ∀ a, off a + s.size a ≤ s.size a) (w : Vec F s e) (L : List (View.Piece (Elt F) s e)) :
    v.read (Elt F) (v.writes (Elt F) f ((⟨Rect.unit (s := s) off s.size inb, w⟩ : View.Piece (Elt F) s e) :: L)) = w := by
  funext y
  exact View.read_writes_cons_unit_of_mem v f inb w L y y rfl (fun a => by rw [h0 a, Nat.zero_add])

end Loads

/-- Plane `o` of a block of planes. -/
def plane {n a b : ℕ} {e : EltTy} (x : Vec F ⟨3, ![n, a, b]⟩ e) (o : Fin n) : Vec F ⟨3, ![1, a, b]⟩ e :=
  fun j => x (ix3 o (j 1) (j 2))

/-- A load of a plane. -/
theorem load_one {sp : Space} {n a b : ℕ} {e : EltTy} {m : Memref sig .tc sp ⟨3, ![n, a, b]⟩ e} (h : m.IsWhole)
    (x : Vec F ⟨3, ![n, a, b]⟩ e) (o : Fin n)
    (inb : ∀ d, (![o.val, 0, 0] : Fin 3 → ℕ) d + (⟨3, ![1, a, b]⟩ : Shape).size d ≤ (⟨3, ![n, a, b]⟩ : Shape).size d) :
    m.view.readAt (Elt F)
        (Rect.unit (s := ⟨3, ![n, a, b]⟩) ![o.val, 0, 0] (⟨3, ![1, a, b]⟩ : Shape).size inb).toLoadRect (h.unread x)
      = plane x o := by
  funext j
  refine (h.readAt_unread x _ j).trans (congrArg x ?_)
  funext d
  apply Fin.ext
  show (![o.val, 0, 0] : Fin 3 → ℕ) d + 1 * (j d).val = _
  have h0 : (j 0).val < 1 := (j 0).isLt
  fin_cases d
  · show o.val + 1 * (j 0).val = o.val
    omega
  · exact (Nat.zero_add _).trans (Nat.one_mul _)
  · exact (Nat.zero_add _).trans (Nat.one_mul _)

/-- Position `(r, c)` of a plane. -/
def inPlane {a b : ℕ} (r : Fin a) (c : Fin b) : (⟨3, ![1, a, b]⟩ : Shape).Idx := ix3 0 r c

/-- Three planes stored one after another make the block. -/
theorem store_three {κ : Kind} {sp : Space} {a b : ℕ} {e : EltTy} (v : View sig κ sp ⟨3, ![3, a, b]⟩ e)
    (f : v.ty.Contents (Elt F)) (w : Fin 3 → Vec F ⟨3, ![1, a, b]⟩ e)
    (i0 i1 i2) :
    v.read (Elt F) (v.writes (Elt F) f
      [(⟨Rect.unit (s := ⟨3, ![3, a, b]⟩) ![2, 0, 0] (⟨3, ![1, a, b]⟩ : Shape).size i2, w 2⟩ : View.Piece (Elt F) _ e),
        ⟨Rect.unit (s := ⟨3, ![3, a, b]⟩) ![1, 0, 0] (⟨3, ![1, a, b]⟩ : Shape).size i1, w 1⟩,
        ⟨Rect.unit (s := ⟨3, ![3, a, b]⟩) ![0, 0, 0] (⟨3, ![1, a, b]⟩ : Shape).size i0, w 0⟩])
      = fun y => w (y 0) (inPlane (y 1) (y 2)) := by
  funext y
  have hx : ∀ k : Fin 3, (y 0) = k → ∀ d : Fin 3,
      (y d).val = (![k.val, 0, 0] : Fin 3 → ℕ) d + ((inPlane (y 1) (y 2) : (⟨3, ![1, a, b]⟩ : Shape).Idx) d).val := by
    rintro k hk d
    fin_cases d
    · exact congrArg Fin.val hk
    · exact (Nat.zero_add _).symm
    · exact (Nat.zero_add _).symm
  have hne : ∀ k : Fin 3, (y 0) ≠ k → (y 0).val < k.val ∨ k.val + 1 ≤ (y 0).val := fun k hk => by
    have h3 : (y 0).val ≠ k.val := fun h => hk (Fin.ext h)
    omega
  by_cases h2 : (y 0) = (2 : Fin 3)
  · refine (View.read_writes_cons_unit_of_mem v f i2 _ _ y _ rfl (hx 2 h2)).trans ?_
    rw [h2]
  refine (View.read_writes_cons_unit_of_not_mem v f i2 _ _ y rfl 0 (hne 2 h2)).trans ?_
  by_cases h1 : (y 0) = (1 : Fin 3)
  · refine (View.read_writes_cons_unit_of_mem v f i1 _ _ y _ rfl (hx 1 h1)).trans ?_
    rw [h1]
  refine (View.read_writes_cons_unit_of_not_mem v f i1 _ _ y rfl 0 (hne 1 h1)).trans ?_
  have h0 : (y 0) = (0 : Fin 3) := by
    have h3 : (y 0).val < 3 := (y 0).isLt
    have g1 : (y 0).val < 1 ∨ 1 + 1 ≤ (y 0).val := hne 1 h1
    have g2 : (y 0).val < 2 ∨ 2 + 1 ≤ (y 0).val := hne 2 h2
    apply Fin.ext
    show (y 0).val = 0
    omega
  refine (View.read_writes_cons_unit_of_mem v f i0 _ _ y _ rfl (hx 0 h0)).trans ?_
  rw [h0]

end Cert.KernelIdeal.Hand
-- ==== Proof.PermBody.lean ====
module

public import proofs.«01_k».proof.Proof.Blocks

/-! The second call's body: it cuts a block of the first weights into three planes, rows past the end of the array zero. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- Plane `o` of the cut block. -/
def permPlane (i : grid1.Coords) (x : Vec F S384x1000 .f32) (o : Fin 3) : Vec F S1x128x1000 .bf16 :=
  shapeCast S1x128x1000
    (truncf .bf16
      (shapeCast S128x1000
        (extractStridedSlice S128x1x1000 ![0, o.val, 0] (k1_pay1 i x) (by fin_cases o <;> decide))
        shapeCasts_S128x1x1000_S128x1000)
      bitsLt_bf16_f32)
    shapeCasts_S128x1000_S1x128x1000

/-- The block the second call's body leaves. -/
def permOut (i : grid1.Coords) (x : Vec F S384x1000 .f32) : Vec F S3x128x1000 .bf16 :=
  fun y => permPlane i x (y 0) (inPlane (y 1) (y 2))

set_option maxHeartbeats 1000000 in
theorem permRun (c : Dev nD) (i : grid1.Coords) (arg1 : Memref sig .tc .vmem S384x1000 .f32) (harg1 : arg1.IsWhole)
    (arg2 : Memref sig .tc .vmem S3x128x1000 .bf16) (harg2 : arg2.IsWhole) (x1 : Vec F S384x1000 .f32)
    (E : Set ℕ) (K : PUnit → sProp (Mt F)) :
    iprop(owns (c : Thread nD τ) arg1 fullShare x1 ∗ (∃ d, owns (c : Thread nD τ) arg2 fullShare d)
        ∗ (iprop(owns (c : Thread nD τ) arg1 fullShare x1
            ∗ owns (c : Thread nD τ) arg2 fullShare (permOut i x1)) -∗ K ⟨⟩))
      ⊢ wp frame (wpE (defs₀ (F := F)) Variants.none c none) E (cc1_w0_permute i arg1 harg1 arg2 harg2) K := by
  simp only [cc1_w0_permute_eq_skeleton]
  unfold cc1_w0_permute_skel owns
  iintro ⟨⟨%f1, %hf1, H1⟩, ⟨%d2, %f2, -, H2⟩, Hk⟩
  obtain rfl := harg1.eq_unread hf1
  sl_exec
  sl_step
  iapply Hk
  isplitl [H1]
  · iapply (owns_of_unread c harg1 x1) $$ H1
  iexists _
  isplitr
  swap
  · iexact H2
  ipureintro
  have h1 := load_all harg1 x1 (off := ![0, 0]) (by decide) inb_S384x1000_S384x1000_0_0
  have h2 := store_three arg2.view f2
    (permPlane i (arg1.view.readAt (Elt F)
      (Rect.unit (s := S384x1000) ![0, 0] S384x1000.size inb_S384x1000_S384x1000_0_0).toLoadRect (harg1.unread x1)))
    inb_S3x128x1000_S1x128x1000_0_0_0 inb_S3x128x1000_S1x128x1000_1_0_0 inb_S3x128x1000_S1x128x1000_2_0_0
  refine Eq.trans h2 ?_
  rw [h1]
  rfl

end Cert.KernelIdeal.Hand
-- ==== Proof.PermPoints.lean ====
module

public import proofs.«01_k».proof.Proof.BinPoints
public import proofs.«01_k».proof.Proof.PermBody

/-! The second call at a point of its grid. The last block of the weight's rows runs past the weight's end, and the rows of the
buffer past that end hold anything: the body puts zeros for them. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

variable (V : Arrays F) (c : Dev nD)

/-- A window's block at a point, its part inside the array. -/
def blk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the weight at a point over whatever the buffer holds past the weight's end. -/
def rows1 (t : Fin cfg1.N) (d : Vec F S384x1000 .f32) : Vec F S384x1000 .f32 :=
  (cfg1.win 0).fill (cfg1.grid.coords t) d (blk1 V c 0 t)

/-- Those rows over zeros. -/
def rows1z (t : Fin cfg1.N) : Vec F S384x1000 .f32 := rows1 V c t (fun _ => (FloatOps.ofBits .f32 0#32 : F .f32))

/-- The mask of the rows that the weight has. -/
theorem kept_row (i : grid1.Coords) (p : S384x1000.Idx) :
    cmpi .slt (iota Kind.tc S384x1000 32 [0] iota_S384x1000_d0_w32)
      (broadcast S384x1000 (Scalar.subi (9999#32) (Scalar.muli (Scalar.muli (BitVec.ofNat 32 (i 0).val) 3#32) 128#32))) p
      = if (p 0).val + 384 * (i 0).val < 9999 then 1#1 else 0#1 := by
  have ha : (p 0).val < 384 := (p 0).isLt
  have hb : (i 0).val < 27 := (i 0).isLt
  have e : iota Kind.tc S384x1000 32 [0] iota_S384x1000_d0_w32 p = BitVec.ofNat 32 (p 0).val := by
    unfold iota
    rw [List.foldl_cons, List.foldl_nil, Nat.zero_mul, Nat.zero_add]
  show IntOp.cmpi .slt (iota Kind.tc S384x1000 32 [0] iota_S384x1000_d0_w32 p) _ = _
  rw [e]
  show IntOp.cmpi .slt (BitVec.ofNat 32 (p 0).val)
    (9999#32 - BitVec.ofNat 32 (i 0).val * 3#32 * 128#32) = _
  generalize (p 0).val = a at *
  generalize (i 0).val = b at *
  have h1 : (BitVec.ofNat 32 a).toInt = (a : ℤ) := by
    rw [BitVec.toInt_eq_toNat_of_lt (by rw [BitVec.toNat_ofNat]; omega), BitVec.toNat_ofNat]
    omega
  have h2 : (9999#32 - BitVec.ofNat 32 b * 3#32 * 128#32).toInt = 9999 - 384 * (b : ℤ) := by
    interval_cases b <;> rfl
  unfold IntOp.cmpi
  simp only [BitVec.slt, h1, h2]
  by_cases h : a + 384 * b < 9999
  · rw [if_pos h, decide_eq_true (by omega)]; rfl
  · rw [if_neg h, decide_eq_false (by omega)]; rfl

/-- The body reads the rows of its block that the weight has, and no other. -/
theorem zeroed (i : grid1.Coords) (x x' : Vec F S384x1000 .f32)
    (h : ∀ p : S384x1000.Idx, (p 0).val + 384 * (i 0).val < 9999 → x p = x' p) :
    k1_pay1 i x = k1_pay1 i x' := by
  unfold k1_pay1
  refine congrArg (fun v => shapeCast S128x3x1000 v shapeCasts_S384x1000_S128x3x1000) (funext fun p => ?_)
  simp only [select]
  rw [kept_row]
  by_cases hp : (p 0).val + 384 * (i 0).val < 9999
  · rw [h p hp]
  · rw [if_neg hp]; rfl

/-- A row that the weight has is one the transfer fills. -/
theorem rows1_agree (t : Fin cfg1.N) (d d' : Vec F S384x1000 .f32) (p : S384x1000.Idx)
    (hp : (p 0).val + 384 * (grid1.coords t 0).val < 9999) : rows1 V c t d p = rows1 V c t d' p := by
  have hm : (cfg1.win 0).moved (cfg1.grid.coords t) p = true := by
    rw [(cfg1.win 0).moved_iff]
    intro a
    have h1 : (p 1).val < 1000 := (p 1).isLt
    have h0 : (p 0).val < 384 := (p 0).isLt
    have hi : (grid1.coords t 0).val < 27 := (grid1.coords t 0).isLt
    have e : (BitVec.ofNat 32 (grid1.coords t 0).val).toNat = (grid1.coords t 0).val := by
      rw [BitVec.toNat_ofNat]; omega
    match a with
    | 0 =>
      show (p 0).val < (Pipeline.Clip.of (BitVec.ofNat 32 (grid1.coords t 0).val).toNat 384 9999).extent 384
      rw [e]
      unfold Pipeline.Clip.of
      split
      · exact h0
      · show _ < 9999 - (grid1.coords t 0).val * 384
        omega
    | 1 => exact h1
  unfold rows1 Pipeline.Window.fill
  rw [dif_pos hm, dif_pos hm]

theorem permOut_rows (t : Fin cfg1.N) (d : Vec F S384x1000 .f32) :
    permOut (grid1.coords t) (rows1 V c t d) = permOut (grid1.coords t) (rows1z V c t) := by
  unfold permOut permPlane
  rw [zeroed (grid1.coords t) _ _ (rows1_agree V c t d _)]
  rfl

/-- What the body leaves in a window's buffer. -/
def dat1 : Dat τ (Elt F) Unit ℕ (UR sig nD τ) ℕ cfg1 c where
  A w := V c (Pipeline.arrRef spec1 w)
  after := fun
    | 0 => fun t => rows1z V c t
    | 1 => fun t => permOut (grid1.coords t) (rows1z V c t)
    | ⟨_ + 2, h⟩ => absurd h (Nat.not_lt.2 (Nat.le_add_left _ _))
  Φ _ := Pipeline.scopedRest spec1 c
  q _ := fullShare
  owed _ := 0

theorem found1_0 (t : Fin cfg1.N) (d) : (dat1 V c).before 0 t d = rows1 V c t d :=
  (dat1 V c).before_fetched 0 t (fetch1_0 t) d

/-- The second call's body at every point. -/
theorem body1 : BodyObligationLoose (dat1 V c) (defs₀ (F := F)) Variants.none () Set.univ := fun t => by
  rw [bigSep_W1, bigSep_W1]
  show _ ⊢ wp frame (wpE (defs₀ (F := F)) Variants.none c none) Set.univ (bodyAt1 t) _
  simp only [found1_0]
  rw [show (dat1 V c).Φ t.succ = (dat1 V c).Φ t.castSucc from rfl,
    show (dat1 V c).owesAt () t.succ = (dat1 V c).owesAt () t.castSucc from rfl]
  iintro ⟨HP, HO, ⟨%d0, H0⟩, ⟨%d1, H1⟩⟩
  iapply (permRun c (grid1.coords t) _ _ _ _ (rows1 V c t d0) Set.univ _)
  isplitl [H0]; · iexact H0
  isplitl [H1]; · iexists _; iexact H1
  rw [permOut_rows]
  iintro ⟨H0, H1⟩
  isplitl [HP]; · iexact HP
  isplitl [HO]; · iexact HO
  isplitl [H0]
  · iexists d0
    rw [show (cfg1.win 0).fill (cfg1.grid.coords t) d0 ((cfg1.win 0).cut (cfg1.grid.coords t) ((dat1 V c).after 0 t))
      = rows1 V c t d0 from congrArg _ ((cfg1.win 0).cut_fill _ _ _)]
    iexact H0
  iexact H1

end Cert.KernelIdeal.Hand
-- ==== Proof.MlpBody.lean ====
module

public import proofs.«01_k».proof.Proof.Blocks

/-! The third call's body, which has three cases: at the first step of a row of the grid it starts the carried sum, at the
second it adds to it, and at the third it finishes the sum, runs the layers and stores the similarities. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- A step's share of the first layer: three products, one for each plane. -/
def accTerm (x0 : Vec F S3x256x1152 .bf16) (x1 : Vec F S3x1152x1000 .bf16) : FVec F S256x1000 .f32 :=
  k2_pay1 (plane x0 0) (plane x1 0) (plane x0 1) (plane x1 1) (plane x0 2) (plane x1 2)

/-- The carried sum after a row's first step. -/
def accFirst (x0 : Vec F S3x256x1152 .bf16) (x1 : Vec F S3x1152x1000 .bf16) : Vec F S256x1000 .f32 :=
  shapeCast S256x1000 (accTerm x0 x1) shapeCasts_S256x1000_S256x1000

/-- The carried sum after a row's second step. -/
def accNext (x0 : Vec F S3x256x1152 .bf16) (x1 : Vec F S3x1152x1000 .bf16) (a : Vec F S256x1000 .f32) : Vec F S256x1000 .f32 :=
  shapeCast S256x1000 (addf a (accTerm x0 x1)) shapeCasts_S256x1000_S256x1000

/-- The block stored at a row's third step. -/
def simOut (x0 : Vec F S3x256x1152 .bf16) (x1 : Vec F S3x1152x1000 .bf16) (x2 : Vec F S1x1000 .f32)
    (x3 : Vec F S1000x800 .f32) (x4 : Vec F S1x800 .f32) (x5 : Vec F S800x800 .f32) (x6 : Vec F S1x800 .f32)
    (x7 : Vec F S800x400 .f32) (x8 : Vec F S1x400 .f32) (a : Vec F S256x1000 .f32) : Vec F S1x256x1 .f32 :=
  k2_pay4 (k2_pay5 (accTerm x0 x1) a x2 x3 x4 x5 x6 x7 x8) (k2_pay6 (accTerm x0 x1) a x2 x3 x4 x5 x6 x7 x8)

/-- A row's first step. -/
abbrev atFirst (i : grid2.Coords) : Prop :=
  Scalar.cmpi .ne (Scalar.extui (Scalar.cmpi .eq (BitVec.ofNat 32 (i 1).val) 0#32)) 0#32 = 1#1

/-- A row's second step. -/
abbrev atSecond (i : grid2.Coords) : Prop :=
  Scalar.cmpi .ne (Scalar.extui (Scalar.cmpi .eq (BitVec.ofNat 32 (i 1).val) 1#32)) 0#32 = 1#1

/-- A row's third step. -/
abbrev atThird (i : grid2.Coords) : Prop := k2_cond3 i = 1#1

theorem accFirst_of {a0 a1 a2 b0 b1 b2} {x0 : Vec F S3x256x1152 .bf16} {x1 : Vec F S3x1152x1000 .bf16}
    (h0 : a0 = plane x0 0) (h1 : a1 = plane x0 1) (h2 : a2 = plane x0 2)
    (g0 : b0 = plane x1 0) (g1 : b1 = plane x1 1) (g2 : b2 = plane x1 2) :
    k2_pay1 a0 b0 a1 b1 a2 b2 = accTerm x0 x1 := by
  subst h0 h1 h2 g0 g1 g2
  rfl

theorem simOut_of {t y2 y3 y4 y5 y6 y7 y8 b} {x0 : Vec F S3x256x1152 .bf16} {x1 : Vec F S3x1152x1000 .bf16} {x2 : Vec F S1x1000 .f32}
    {x3 : Vec F S1000x800 .f32} {x4 : Vec F S1x800 .f32} {x5 : Vec F S800x800 .f32} {x6 : Vec F S1x800 .f32}
    {x7 : Vec F S800x400 .f32} {x8 : Vec F S1x400 .f32} {a : Vec F S256x1000 .f32}
    (ht : t = accTerm x0 x1) (h2 : y2 = x2) (h3 : y3 = x3) (h4 : y4 = x4) (h5 : y5 = x5) (h6 : y6 = x6) (h7 : y7 = x7)
    (h8 : y8 = x8) (ha : b = a) :
    k2_pay4 (k2_pay5 t b y2 y3 y4 y5 y6 y7 y8) (k2_pay6 t b y2 y3 y4 y5 y6 y7 y8)
      = simOut x0 x1 x2 x3 x4 x5 x6 x7 x8 a := by
  subst ht h2 h3 h4 h5 h6 h7 h8 ha
  rfl

set_option maxHeartbeats 2000000 in
/-- A first step. -/
theorem mlpFirst (c : Dev nD) (i : grid2.Coords)
    (arg2 : Memref sig .tc .vmem S3x256x1152 .bf16) (harg2 : arg2.IsWhole)
    (arg3 : Memref sig .tc .vmem S3x1152x1000 .bf16) (harg3 : arg3.IsWhole)
    (arg4 : Memref sig .tc .vmem S1x1000 .f32) (harg4 : arg4.IsWhole)
    (arg5 : Memref sig .tc .vmem S1000x800 .f32) (harg5 : arg5.IsWhole)
    (arg6 : Memref sig .tc .vmem S1x800 .f32) (harg6 : arg6.IsWhole)
    (arg7 : Memref sig .tc .vmem S800x800 .f32) (harg7 : arg7.IsWhole)
    (arg8 : Memref sig .tc .vmem S1x800 .f32) (harg8 : arg8.IsWhole)
    (arg9 : Memref sig .tc .vmem S800x400 .f32) (harg9 : arg9.IsWhole)
    (arg10 : Memref sig .tc .vmem S1x400 .f32) (harg10 : arg10.IsWhole)
    (arg11 : Memref sig .tc .vmem S1x256x1 .f32) (harg11 : arg11.IsWhole)
    (arg12 : Memref sig .tc .vmem S256x1000 .f32) (harg12 : arg12.IsWhole)
    (hc0 : atFirst i) (hc1 : ¬atSecond i) (hc2 : ¬atThird i)
    (x0 : Vec F S3x256x1152 .bf16) (x1 : Vec F S3x1152x1000 .bf16) (x2 : Vec F S1x1000 .f32) (x3 : Vec F S1000x800 .f32)
    (x4 : Vec F S1x800 .f32) (x5 : Vec F S800x800 .f32) (x6 : Vec F S1x800 .f32) (x7 : Vec F S800x400 .f32)
    (x8 : Vec F S1x400 .f32) (d : Vec F S1x256x1 .f32)
    (E : Set ℕ) (K : PUnit → sProp (Mt F)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare d
        ∗ (∃ s, owns (c : Thread nD τ) arg12 fullShare s)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare d
            ∗ owns (c : Thread nD τ) arg12 fullShare (accFirst x0 x1)) -∗ K ⟨⟩))
      ⊢ wp frame (wpE (defs₀ (F := F)) Variants.none c none) E
          (cc2_mlp_cosine i arg2 harg2 arg3 harg3 arg4 harg4 arg5 harg5 arg6 harg6 arg7 harg7 arg8 harg8 arg9 harg9 arg10 harg10 arg11 harg11 arg12 harg12) K := by
  simp only [cc2_mlp_cosine_eq_skeleton]
  unfold cc2_mlp_cosine_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  sl_exec (disch := first | sl_exact hc0 | sl_exact hc1 | sl_exact hc2)
  sl_step
  iapply Hk
  isplitl [H0]
  · iapply (owns_of_unread c harg2 x0) $$ H0
  isplitl [H1]
  · iapply (owns_of_unread c harg3 x1) $$ H1
  isplitl [H2]
  · iapply (owns_of_unread c harg4 x2) $$ H2
  isplitl [H3]
  · iapply (owns_of_unread c harg5 x3) $$ H3
  isplitl [H4]
  · iapply (owns_of_unread c harg6 x4) $$ H4
  isplitl [H5]
  · iapply (owns_of_unread c harg7 x5) $$ H5
  isplitl [H6]
  · iapply (owns_of_unread c harg8 x6) $$ H6
  isplitl [H7]
  · iapply (owns_of_unread c harg9 x7) $$ H7
  isplitl [H8]
  · iapply (owns_of_unread c harg10 x8) $$ H8
  isplitl [H9]
  · iapply (owns_of_unread c harg11 d) $$ H9
  iexists _
  isplitr
  swap
  · iexact HS
  ipureintro
  have p0 := load_one harg2 x0
  have p1 := load_one harg3 x1
  refine (store_all arg12.view fs (by decide) _ _ _).trans ?_
  exact congrArg (fun z => shapeCast S256x1000 z shapeCasts_S256x1000_S256x1000)
    (accFirst_of (p0 0 _) (p0 1 _) (p0 2 _) (p1 0 _) (p1 1 _) (p1 2 _))

set_option maxHeartbeats 2000000 in
/-- A second step. -/
theorem mlpSecond (c : Dev nD) (i : grid2.Coords)
    (arg2 : Memref sig .tc .vmem S3x256x1152 .bf16) (harg2 : arg2.IsWhole)
    (arg3 : Memref sig .tc .vmem S3x1152x1000 .bf16) (harg3 : arg3.IsWhole)
    (arg4 : Memref sig .tc .vmem S1x1000 .f32) (harg4 : arg4.IsWhole)
    (arg5 : Memref sig .tc .vmem S1000x800 .f32) (harg5 : arg5.IsWhole)
    (arg6 : Memref sig .tc .vmem S1x800 .f32) (harg6 : arg6.IsWhole)
    (arg7 : Memref sig .tc .vmem S800x800 .f32) (harg7 : arg7.IsWhole)
    (arg8 : Memref sig .tc .vmem S1x800 .f32) (harg8 : arg8.IsWhole)
    (arg9 : Memref sig .tc .vmem S800x400 .f32) (harg9 : arg9.IsWhole)
    (arg10 : Memref sig .tc .vmem S1x400 .f32) (harg10 : arg10.IsWhole)
    (arg11 : Memref sig .tc .vmem S1x256x1 .f32) (harg11 : arg11.IsWhole)
    (arg12 : Memref sig .tc .vmem S256x1000 .f32) (harg12 : arg12.IsWhole)
    (hc0 : ¬atFirst i) (hc1 : atSecond i) (hc2 : ¬atThird i)
    (x0 : Vec F S3x256x1152 .bf16) (x1 : Vec F S3x1152x1000 .bf16) (x2 : Vec F S1x1000 .f32) (x3 : Vec F S1000x800 .f32)
    (x4 : Vec F S1x800 .f32) (x5 : Vec F S800x800 .f32) (x6 : Vec F S1x800 .f32) (x7 : Vec F S800x400 .f32)
    (x8 : Vec F S1x400 .f32) (d : Vec F S1x256x1 .f32) (a : Vec F S256x1000 .f32)
    (E : Set ℕ) (K : PUnit → sProp (Mt F)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare d
        ∗ owns (c : Thread nD τ) arg12 fullShare a
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare d
            ∗ owns (c : Thread nD τ) arg12 fullShare (accNext x0 x1 a)) -∗ K ⟨⟩))
      ⊢ wp frame (wpE (defs₀ (F := F)) Variants.none c none) E
          (cc2_mlp_cosine i arg2 harg2 arg3 harg3 arg4 harg4 arg5 harg5 arg6 harg6 arg7 harg7 arg8 harg8 arg9 harg9 arg10 harg10 arg11 harg11 arg12 harg12) K := by
  simp only [cc2_mlp_cosine_eq_skeleton]
  unfold cc2_mlp_cosine_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hfs
  sl_exec (disch := first | sl_exact hc0 | sl_exact hc1 | sl_exact hc2)
  sl_step
  iapply Hk
  isplitl [H0]
  · iapply (owns_of_unread c harg2 x0) $$ H0
  isplitl [H1]
  · iapply (owns_of_unread c harg3 x1) $$ H1
  isplitl [H2]
  · iapply (owns_of_unread c harg4 x2) $$ H2
  isplitl [H3]
  · iapply (owns_of_unread c harg5 x3) $$ H3
  isplitl [H4]
  · iapply (owns_of_unread c harg6 x4) $$ H4
  isplitl [H5]
  · iapply (owns_of_unread c harg7 x5) $$ H5
  isplitl [H6]
  · iapply (owns_of_unread c harg8 x6) $$ H6
  isplitl [H7]
  · iapply (owns_of_unread c harg9 x7) $$ H7
  isplitl [H8]
  · iapply (owns_of_unread c harg10 x8) $$ H8
  isplitl [H9]
  · iapply (owns_of_unread c harg11 d) $$ H9
  iexists _
  isplitr
  swap
  · iexact HS
  ipureintro
  have p0 := load_one harg2 x0
  have p1 := load_one harg3 x1
  have hs := load_all harg12 a (off := ![0, 0]) (by decide) inb_S256x1000_S256x1000_0_0
  refine (store_all arg12.view _ (by decide) _ _ _).trans ?_
  exact congrArg₂ (fun y z => shapeCast S256x1000 (addf y z) shapeCasts_S256x1000_S256x1000) hs
    (accFirst_of (p0 0 _) (p0 1 _) (p0 2 _) (p1 0 _) (p1 1 _) (p1 2 _))

set_option maxHeartbeats 2000000 in
/-- A third step. -/
theorem mlpThird (c : Dev nD) (i : grid2.Coords)
    (arg2 : Memref sig .tc .vmem S3x256x1152 .bf16) (harg2 : arg2.IsWhole)
    (arg3 : Memref sig .tc .vmem S3x1152x1000 .bf16) (harg3 : arg3.IsWhole)
    (arg4 : Memref sig .tc .vmem S1x1000 .f32) (harg4 : arg4.IsWhole)
    (arg5 : Memref sig .tc .vmem S1000x800 .f32) (harg5 : arg5.IsWhole)
    (arg6 : Memref sig .tc .vmem S1x800 .f32) (harg6 : arg6.IsWhole)
    (arg7 : Memref sig .tc .vmem S800x800 .f32) (harg7 : arg7.IsWhole)
    (arg8 : Memref sig .tc .vmem S1x800 .f32) (harg8 : arg8.IsWhole)
    (arg9 : Memref sig .tc .vmem S800x400 .f32) (harg9 : arg9.IsWhole)
    (arg10 : Memref sig .tc .vmem S1x400 .f32) (harg10 : arg10.IsWhole)
    (arg11 : Memref sig .tc .vmem S1x256x1 .f32) (harg11 : arg11.IsWhole)
    (arg12 : Memref sig .tc .vmem S256x1000 .f32) (harg12 : arg12.IsWhole)
    (hc0 : ¬atFirst i) (hc1 : ¬atSecond i) (hc2 : atThird i)
    (x0 : Vec F S3x256x1152 .bf16) (x1 : Vec F S3x1152x1000 .bf16) (x2 : Vec F S1x1000 .f32) (x3 : Vec F S1000x800 .f32)
    (x4 : Vec F S1x800 .f32) (x5 : Vec F S800x800 .f32) (x6 : Vec F S1x800 .f32) (x7 : Vec F S800x400 .f32)
    (x8 : Vec F S1x400 .f32) (a : Vec F S256x1000 .f32)
    (E : Set ℕ) (K : PUnit → sProp (Mt F)) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ (∃ d, owns (c : Thread nD τ) arg11 fullShare d)
        ∗ owns (c : Thread nD τ) arg12 fullShare a
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare (simOut x0 x1 x2 x3 x4 x5 x6 x7 x8 a)
            ∗ owns (c : Thread nD τ) arg12 fullShare a) -∗ K ⟨⟩))
      ⊢ wp frame (wpE (defs₀ (F := F)) Variants.none c none) E
          (cc2_mlp_cosine i arg2 harg2 arg3 harg3 arg4 harg4 arg5 harg5 arg6 harg6 arg7 harg7 arg8 harg8 arg9 harg9 arg10 harg10 arg11 harg11 arg12 harg12) K := by
  simp only [cc2_mlp_cosine_eq_skeleton]
  unfold cc2_mlp_cosine_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg12.eq_unread hfs
  sl_exec (disch := first | sl_exact hc0 | sl_exact hc1 | sl_exact hc2)
  sl_step
  iapply Hk
  isplitl [H0]
  · iapply (owns_of_unread c harg2 x0) $$ H0
  isplitl [H1]
  · iapply (owns_of_unread c harg3 x1) $$ H1
  isplitl [H2]
  · iapply (owns_of_unread c harg4 x2) $$ H2
  isplitl [H3]
  · iapply (owns_of_unread c harg5 x3) $$ H3
  isplitl [H4]
  · iapply (owns_of_unread c harg6 x4) $$ H4
  isplitl [H5]
  · iapply (owns_of_unread c harg7 x5) $$ H5
  isplitl [H6]
  · iapply (owns_of_unread c harg8 x6) $$ H6
  isplitl [H7]
  · iapply (owns_of_unread c harg9 x7) $$ H7
  isplitl [H8]
  · iapply (owns_of_unread c harg10 x8) $$ H8
  isplitl [H9]
  · iexists _
    isplitr
    swap
    · iexact H9
    ipureintro
    have p0 := load_one harg2 x0
    have p1 := load_one harg3 x1
    have hs := load_all harg12 a (off := ![0, 0]) (by decide) inb_S256x1000_S256x1000_0_0
    have h2 := load_all harg4 x2 (off := ![0, 0]) (by decide) inb_S1x1000_S1x1000_0_0
    have h3 := load_all harg5 x3 (off := ![0, 0]) (by decide) inb_S1000x800_S1000x800_0_0
    have h4 := load_all harg6 x4 (off := ![0, 0]) (by decide) inb_S1x800_S1x800_0_0
    have h5 := load_all harg7 x5 (off := ![0, 0]) (by decide) inb_S800x800_S800x800_0_0
    have h6 := load_all harg8 x6 (off := ![0, 0]) (by decide) inb_S1x800_S1x800_0_0
    have h7 := load_all harg9 x7 (off := ![0, 0]) (by decide) inb_S800x400_S800x400_0_0
    have h8 := load_all harg10 x8 (off := ![0, 0]) (by decide) inb_S1x400_S1x400_0_0
    refine (store_all arg11.view _ (by decide) _ _ _).trans ?_
    exact simOut_of (accFirst_of (p0 0 _) (p0 1 _) (p0 2 _) (p1 0 _) (p1 1 _) (p1 2 _)) h2 h3 h4 h5 h6 h7 h8 hs
  iapply (owns_of_unread c harg12 a) $$ HS

end Cert.KernelIdeal.Hand
-- ==== Proof.MlpPoints.lean ====
module

public import proofs.«01_k».proof.Proof.BinPoints
public import proofs.«01_k».proof.Proof.MlpBody
public import Idealize.ShloMosaic.Lib.WordCmp

/-! The third call at a point of its grid: two rows of three steps each. The sum carried from step to step is named, and at a
row's third step the body leaves the row's similarities. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

variable (V : Arrays F) (c : Dev nD)

/-- A window's block at a point. -/
def blk2 (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A point of the grid by its number. -/
def pt2 (n : ℕ) : Fin cfg2.N := ⟨n % 6, (Nat.mod_lt n (by decide)).trans_eq N_2.symm⟩

theorem pt2_val (t : Fin cfg2.N) : pt2 t.val = t :=
  Fin.ext (Nat.mod_eq_of_lt (t.isLt.trans_eq N_2))

/-- The carried sum after a row's first step, of number `n`. -/
def startSum (n : ℕ) : Vec F S256x1000 .f32 := accFirst (blk2 V c 0 (pt2 n)) (blk2 V c 1 (pt2 n))

/-- The carried sum after the second step of the row whose first step is of number `n`. -/
def nextSum (n : ℕ) : Vec F S256x1000 .f32 :=
  accNext (blk2 V c 0 (pt2 (n + 1))) (blk2 V c 1 (pt2 (n + 1))) (startSum V c n)

/-- What goes from step to step: the carried sum, named inside a row, and the buffers the call has no use for. -/
def carry2 (n : ℕ) : sProp (Mt F) :=
  iprop((∃ s, ⌜(n % 3 = 1 → s = startSum V c (n - 1)) ∧ (n % 3 = 2 → s = nextSum V c (n - 2))⌝
      ∗ owns (c : Thread nD τ) (Memref.whole cc2_scratch0) fullShare s)
    ∗ Pipeline.scopedRestBut spec2 c [cc2_scratch0])

/-- What the body leaves in a window's buffer. -/
def dat2 : Dat τ (Elt F) Unit ℕ (UR sig nD τ) ℕ cfg2 c where
  A w := V c (Pipeline.arrRef spec2 w)
  after := fun
    | 0 => fun t => blk2 V c 0 t
    | 1 => fun t => blk2 V c 1 t
    | 2 => fun t => blk2 V c 2 t
    | 3 => fun t => blk2 V c 3 t
    | 4 => fun t => blk2 V c 4 t
    | 5 => fun t => blk2 V c 5 t
    | 6 => fun t => blk2 V c 6 t
    | 7 => fun t => blk2 V c 7 t
    | 8 => fun t => blk2 V c 8 t
    | 9 => fun t => simOut (blk2 V c 0 t) (blk2 V c 1 t) (blk2 V c 2 t) (blk2 V c 3 t) (blk2 V c 4 t) (blk2 V c 5 t) (blk2 V c 6 t) (blk2 V c 7 t) (blk2 V c 8 t) (nextSum V c (t.val - 2))
    | ⟨_ + 10, h⟩ => absurd h (Nat.not_lt.2 (Nat.le_add_left _ _))
  Φ t := carry2 V c t.val
  q _ := fullShare
  owed _ := 0

theorem found2_0 (t : Fin cfg2.N) (d) : (dat2 V c).before 0 t d = blk2 V c 0 t :=
  (dat2 V c).before_in_eq_fetched 0 rfl (fun _ => rfl) (fun _ _ _ => rfl) (fun _ => rfl) t d
theorem found2_1 (t : Fin cfg2.N) (d) : (dat2 V c).before 1 t d = blk2 V c 1 t :=
  (dat2 V c).before_in_eq_fetched 1 rfl (fun _ => rfl) (fun _ _ _ => rfl) (fun _ => rfl) t d
theorem found2_2 (t : Fin cfg2.N) (d) : (dat2 V c).before 2 t d = blk2 V c 2 t :=
  (dat2 V c).before_in_eq_fetched 2 rfl (fun _ => rfl) (fun _ _ _ => rfl) (fun _ => rfl) t d
theorem found2_3 (t : Fin cfg2.N) (d) : (dat2 V c).before 3 t d = blk2 V c 3 t :=
  (dat2 V c).before_in_eq_fetched 3 rfl (fun _ => rfl) (fun _ _ _ => rfl) (fun _ => rfl) t d
theorem found2_4 (t : Fin cfg2.N) (d) : (dat2 V c).before 4 t d = blk2 V c 4 t :=
  (dat2 V c).before_in_eq_fetched 4 rfl (fun _ => rfl) (fun _ _ _ => rfl) (fun _ => rfl) t d
theorem found2_5 (t : Fin cfg2.N) (d) : (dat2 V c).before 5 t d = blk2 V c 5 t :=
  (dat2 V c).before_in_eq_fetched 5 rfl (fun _ => rfl) (fun _ _ _ => rfl) (fun _ => rfl) t d
theorem found2_6 (t : Fin cfg2.N) (d) : (dat2 V c).before 6 t d = blk2 V c 6 t :=
  (dat2 V c).before_in_eq_fetched 6 rfl (fun _ => rfl) (fun _ _ _ => rfl) (fun _ => rfl) t d
theorem found2_7 (t : Fin cfg2.N) (d) : (dat2 V c).before 7 t d = blk2 V c 7 t :=
  (dat2 V c).before_in_eq_fetched 7 rfl (fun _ => rfl) (fun _ _ _ => rfl) (fun _ => rfl) t d
theorem found2_8 (t : Fin cfg2.N) (d) : (dat2 V c).before 8 t d = blk2 V c 8 t :=
  (dat2 V c).before_in_eq_fetched 8 rfl (fun _ => rfl) (fun _ _ _ => rfl) (fun _ => rfl) t d

/-- A row's first steps are the points of remainder 0, -/
theorem first_iff (t : Fin cfg2.N) : atFirst (grid2.coords t) ↔ t.val % 3 = 0 := by
  have ht : t.val < 6 := Nat.lt_of_lt_of_eq t.isLt N_2
  have e1 : (grid2.coords t 1).val = t.val / 1 % 3 := Pipeline.Grid.coords_val t 1 (by decide) rfl
  simp only [atFirst, e1]
  word_cmp

/-- its second of remainder 1, -/
theorem second_iff (t : Fin cfg2.N) : atSecond (grid2.coords t) ↔ t.val % 3 = 1 := by
  have ht : t.val < 6 := Nat.lt_of_lt_of_eq t.isLt N_2
  have e1 : (grid2.coords t 1).val = t.val / 1 % 3 := Pipeline.Grid.coords_val t 1 (by decide) rfl
  simp only [atSecond, e1]
  word_cmp

/-- its third of remainder 2. -/
theorem third_iff (t : Fin cfg2.N) : atThird (grid2.coords t) ↔ t.val % 3 = 2 := by
  have ht : t.val < 6 := Nat.lt_of_lt_of_eq t.isLt N_2
  have e1 : (grid2.coords t 1).val = t.val / 1 % 3 := Pipeline.Grid.coords_val t 1 (by decide) rfl
  simp only [atThird, k2_cond3, e1]
  word_cmp

theorem idle_before (t : Fin cfg2.N) (h : ¬t.val % 3 = 2) : idle2 9 (grid2.coords t) = true := by
  have h3 : ¬k2_cond3 (grid2.coords t) = 1#1 := fun e => h ((third_iff t).mp e)
  show (!(k2_cond3 (grid2.coords t) == 1#1)) = true
  rw [beq_eq_false_iff_ne.mpr h3]; rfl

theorem live_last (t : Fin cfg2.N) (h : t.val % 3 = 2) : idle2 9 (grid2.coords t) = false := by
  have h3 : k2_cond3 (grid2.coords t) = 1#1 := (third_iff t).mpr h
  show (!(k2_cond3 (grid2.coords t) == 1#1)) = false
  rw [h3]; rfl

theorem kept_before (t : Fin cfg2.N) (h : ¬t.val % 3 = 2) : (win2 9).flush t = false := by
  rw [← Bool.not_eq_true]; exact fun e => h ((flush2_9 t).mp e)

/-- What the body is handed at a point, and what it hands back. -/
abbrev StepOk (t : Fin cfg2.N) : Prop :=
  iprop((dat2 V c).Φ t.castSucc ∗ (dat2 V c).owesAt () t.castSucc
      ∗ bigSep Finset.univ fun w : Fin cfg2.W =>
          iprop(∃ d, owns (c : Thread nD τ) ((cfg2.win w).stage (cfg2.slots t w)) fullShare ((dat2 V c).before w t d)))
    ⊢ wp frame (wpE (defs₀ (F := F)) Variants.none c none) Set.univ (bodyAt2 t) fun _ =>
        iprop((dat2 V c).Φ t.succ ∗ (dat2 V c).owesAt () t.succ
          ∗ bigSep Finset.univ fun w : Fin cfg2.W =>
              match cfg2.idle w (cfg2.grid.coords t) with
              | true =>
                match (cfg2.win w).flush t with
                | false => iprop(∃ d, owns (c : Thread nD τ) ((cfg2.win w).stage (cfg2.slots t w)) fullShare ((dat2 V c).before w t d))
                | true => owns (c : Thread nD τ) ((cfg2.win w).stage (cfg2.slots t w)) fullShare ((dat2 V c).after w t)
              | false => owns (c : Thread nD τ) ((cfg2.win w).stage (cfg2.slots t w)) fullShare ((dat2 V c).after w t))

set_option maxHeartbeats 1000000 in
theorem step_first (t : Fin cfg2.N) (h : t.val % 3 = 0) : StepOk V c t := by
  unfold StepOk
  rw [bigSep_W2, bigSep_W2]
  simp only [found2_0, found2_1, found2_2, found2_3, found2_4, found2_5, found2_6, found2_7, found2_8]
  rw [show (dat2 V c).owesAt () t.succ = (dat2 V c).owesAt () t.castSucc from rfl,
    show (dat2 V c).Φ t.succ = carry2 V c (t.val + 1) from rfl, show (dat2 V c).Φ t.castSucc = carry2 V c t.val from rfl]
  rw [idle_before t (by omega), kept_before t (by omega)]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  unfold carry2
  icases HP with ⟨⟨%s, %hs, HS⟩, HR⟩
  iapply (mlpFirst c (grid2.coords t) _ _ _ _ _ _ _ _ _ _ _ _ _ _ _ _ _ _ _ _ _ _ ((first_iff t).mpr h) (fun e => absurd ((second_iff t).mp e) (by omega)) (fun e => absurd ((third_iff t).mp e) (by omega))
    (blk2 V c 0 t) (blk2 V c 1 t) (blk2 V c 2 t) (blk2 V c 3 t) (blk2 V c 4 t) (blk2 V c 5 t) (blk2 V c 6 t) (blk2 V c 7 t) (blk2 V c 8 t) ((dat2 V c).before 9 t d9) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexists _; iexact HS
  iintro ⟨H0, H1, H2, H3, H4, H5, H6, H7, H8, H9, HS⟩
  isplitl [HS HR]
  · isplitl [HS]
    · iexists _
      isplitr
      swap
      · iexact HS
      ipureintro
      refine ⟨fun _ => ?_, fun e => absurd e (by omega)⟩
      rw [Nat.add_sub_cancel]; unfold startSum; rw [pt2_val]
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

set_option maxHeartbeats 1000000 in
theorem step_second (t : Fin cfg2.N) (h : t.val % 3 = 1) : StepOk V c t := by
  unfold StepOk
  rw [bigSep_W2, bigSep_W2]
  simp only [found2_0, found2_1, found2_2, found2_3, found2_4, found2_5, found2_6, found2_7, found2_8]
  rw [show (dat2 V c).owesAt () t.succ = (dat2 V c).owesAt () t.castSucc from rfl,
    show (dat2 V c).Φ t.succ = carry2 V c (t.val + 1) from rfl, show (dat2 V c).Φ t.castSucc = carry2 V c t.val from rfl]
  rw [idle_before t (by omega), kept_before t (by omega)]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  unfold carry2
  icases HP with ⟨⟨%s, %hs, HS⟩, HR⟩
  obtain rfl := hs.1 h
  iapply (mlpSecond c (grid2.coords t) _ _ _ _ _ _ _ _ _ _ _ _ _ _ _ _ _ _ _ _ _ _ (fun e => absurd ((first_iff t).mp e) (by omega)) ((second_iff t).mpr h) (fun e => absurd ((third_iff t).mp e) (by omega))
    (blk2 V c 0 t) (blk2 V c 1 t) (blk2 V c 2 t) (blk2 V c 3 t) (blk2 V c 4 t) (blk2 V c 5 t) (blk2 V c 6 t) (blk2 V c 7 t) (blk2 V c 8 t) ((dat2 V c).before 9 t d9) (startSum V c (t.val - 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, H9, HS⟩
  isplitl [HS HR]
  · isplitl [HS]
    · iexists _
      isplitr
      swap
      · iexact HS
      ipureintro
      refine ⟨fun e => absurd e (by omega), fun _ => ?_⟩
      unfold nextSum; rw [show t.val + 1 - 2 + 1 = t.val by omega, show t.val + 1 - 2 = t.val - 1 by omega, pt2_val]
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

set_option maxHeartbeats 1000000 in
theorem step_third (t : Fin cfg2.N) (h : t.val % 3 = 2) : StepOk V c t := by
  unfold StepOk
  rw [bigSep_W2, bigSep_W2]
  simp only [found2_0, found2_1, found2_2, found2_3, found2_4, found2_5, found2_6, found2_7, found2_8]
  rw [show (dat2 V c).owesAt () t.succ = (dat2 V c).owesAt () t.castSucc from rfl,
    show (dat2 V c).Φ t.succ = carry2 V c (t.val + 1) from rfl, show (dat2 V c).Φ t.castSucc = carry2 V c t.val from rfl]
  rw [live_last t h]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  unfold carry2
  icases HP with ⟨⟨%s, %hs, HS⟩, HR⟩
  obtain rfl := hs.2 h
  iapply (mlpThird c (grid2.coords t) _ _ _ _ _ _ _ _ _ _ _ _ _ _ _ _ _ _ _ _ _ _ (fun e => absurd ((first_iff t).mp e) (by omega)) (fun e => absurd ((second_iff t).mp e) (by omega)) ((third_iff t).mpr h)
    (blk2 V c 0 t) (blk2 V c 1 t) (blk2 V c 2 t) (blk2 V c 3 t) (blk2 V c 4 t) (blk2 V c 5 t) (blk2 V c 6 t) (blk2 V c 7 t) (blk2 V c 8 t) (nextSum V c (t.val - 2)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS]; · iexact HS
  iintro ⟨H0, H1, H2, H3, H4, H5, H6, H7, H8, H9, HS⟩
  isplitl [HS HR]
  · isplitl [HS]
    · iexists _
      isplitr
      swap
      · iexact HS
      ipureintro
      exact ⟨fun e => absurd e (by omega), fun e => absurd e (by omega)⟩
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The third call's body at every point. -/
theorem body2 : BodyObligation (dat2 V c) (defs₀ (F := F)) Variants.none () Set.univ := fun t => by
  by_cases h0 : t.val % 3 = 0
  · exact step_first V c t h0
  · by_cases h1 : t.val % 3 = 1
    · exact step_second V c t h1
    · exact step_third V c t (by omega)

end Cert.KernelIdeal.Hand
-- ==== Proof.Region.lean ====
module

public import proofs.«01_k».proof.Proof.PermPoints
public import proofs.«01_k».proof.Proof.MlpPoints
public import proofs.«01_k».proof.Proof.Gen.KernelIdeal.Regions
public import Idealize.ShloMosaic.Lib.Pipeline.RegionsLoop

/-! A call as one step of the whole program: it is entered with every array of the program as the host left it, and left with
the array it fills at the contents its grid wrote and every other array as before. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf RegionSeg)

variable {F : FTy → Type} [FloatOps F]

/-- No core waits for another, so no level is assigned. -/
abbrev lvls : GSem nD τ sig → Finset Unit := fun _ => ∅
/-- The rank of a level, of which there are none. -/
abbrev rank : GSem nD τ sig → Unit → ℕ := fun _ _ => 0

/-- What a core holds of its dues between the calls: nothing owed. -/
abbrev quiet (c : Dev nD) : sProp (Mt F) := iprop(∃ W, owes (c : Thread nD τ) (0 : CellTallies nD τ sig Unit) W)

/-- The proof data of the three calls. -/
abbrev Dats (F : FTy → Type) [FloatOps F] := (p : Fin 3) → (c : Dev nD) → Dat τ (Elt F) Unit ℕ (UR sig nD τ) ℕ (cfgs p) c

set_option backward.isDefEq.respectTransparency.types false in
/-- A call entered with the arrays at `V` and left with them at `V'`, which differs from `V` in what the call's windows write. -/
def callSeg (pd : Dats F) (p : Fin 3) (launch : Pipeline.LaunchFacts (nD := nD) (τ := τ) cfgs p) (V V' : Arrays F)
    (hbody : ∀ c, BodyObligationLoose (pd p c) defs₀ Variants.none () Set.univ)
    (hA : ∀ c w, (pd p c).A w = V c (Pipeline.arrRef (cfgs p).spec w))
    (hq : ∀ c w, (pd p c).q w = fullShare) (howed : ∀ c t, (pd p c).owed t = 0)
    (hrec : ∀ c t, (pd p c).recorded t = Set.univ)
    (hfirst : ∀ c, (Pipeline.scopedRest (cfgs p).spec c : sProp (Mt F)) ⊢ (pd p c).Φ 0)
    (hlast : ∀ c, (pd p c).Φ (Fin.last _) ⊢ (Pipeline.scopedRest (cfgs p).spec c : sProp (Mt F)))
    (hF : ∀ c w, (pd p c).arrAt w (cfgs p).N = V' c (Pipeline.arrRef (cfgs p).spec w))
    (hrest : ∀ c b, b ∉ Finset.univ.image (Pipeline.arrRef (cfgs p).spec) → V' c b = V c b) :
    RegionSeg (pcfgs (F := F)) adm pd () defs₀ Variants.none lvls rank p where
  win := launch.win.to₀
  block_pos := launch.block_pos
  stage_whole := launch.stage_whole
  K := PEmpty
  osem k := k.elim
  ho := Pipeline.OwnSemFacts.none _
  hbody c := hbody c
  hwaits := Pipeline.hwaits_of_owed_zero _ _ _ _ lvls rank p fun c t => howed c t
  pre c := iprop(unscopedBufs c (V c) ∗ quiet c)
  post c := iprop(unscopedBufs c (V' c) ∗ quiet c)
  X _ := BI.emp
  Y _ := BI.emp
  Z c := Pipeline.unscopedRest (Ix := Unit) (Name := ℕ) (U := UR sig nD τ) (Lvl := ℕ) (cfgs p).spec c (V c)
  hentry c := by
    rw [Pipeline.ownSems0_none]
    have hsplit := Pipeline.arrays_of_unscopedBufs (p := p) (pcfgs (F := F)) adm pd launch.win launch.arr_whole c
      ((pd p c).share_full (hq c)) (V c) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (by rw [hrec c]; trivial)
      iexact HO
    isplitr; · iempintro
    iexact Hrest
  hin c := by
    iintro ⟨-, -, Hr⟩
    iapply hfirst c; iexact Hr
  hout c := by
    rw [Pipeline.ownSems0_none]
    iintro Hr
    isplitr; · iempintro
    isplitr; · iempintro
    iapply hlast c; iexact Hr
  hexit c := by
    have hjoin := Pipeline.unscopedBufs_of_arrays (p := p) (pcfgs (F := F)) adm (Ix := Unit) (Name := ℕ) (U := UR sig nD τ) (Lvl := ℕ)
      launch.win launch.arr_whole c pd ((pd p c).share_full (hq c)) (V c) (V' c) ((pd p c).arrAt · (cfgs p).N) (hF c) (hrest c)
    iintro ⟨Ha, HO, -, Hrest⟩
    imodintro
    isplitl [Ha Hrest]
    · iapply hjoin; isplitl [Ha] <;> iassumption
    unfold Pipeline.Dat.owesAt Pipeline.owesWithin
    rw [howed c]
    icases HO with ⟨%W, -, HO⟩; iexists W; iexact HO

end Cert.KernelIdeal.Hand

end
-- ==== Proof.Run.lean ====
module

public import proofs.«01_k».proof.Proof.Region

/-! The whole program run: what every array holds after each call, and that the program ends with the arrays so. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf RegionSeg Seg)
open Idealize.ShloMosaic.Rounds

variable {F : FTy → Type} [FloatOps F]

variable (m : (ℓ : Loc nD τ sig) → Buf (Elt F) ℓ)

/-- The arrays when the first call is entered. -/
abbrev atBin : Arrays F := fun c b => V4 m c b
/-- What the first call leaves in its result. -/
def binned (c : Dev nD) : Buf (Elt F) ((c : Thread nD τ).loc main_v6) := (dat0 (atBin m) c).arrAt 4 cfg0.N
/-- The contents after the first call. -/
abbrev W5 (c : Dev nD) : Valuation τ sig (Elt F) := Function.update (V4 m c) main_v6 (binned m c)
/-- The arrays when the second call is entered. -/
abbrev atPerm : Arrays F := fun c b => W5 m c b
/-- What the second call leaves in its result. -/
def permuted (c : Dev nD) : Buf (Elt F) ((c : Thread nD τ).loc main_v7) := (dat1 (atPerm m) c).arrAt 1 cfg1.N
/-- The contents after the second call. -/
abbrev W6 (c : Dev nD) : Valuation τ sig (Elt F) := Function.update (W5 m c) main_v7 (permuted m c)
/-- The contents when the third call is entered. -/
abbrev W7 (c : Dev nD) : Valuation τ sig (Elt F) := StableHlo.after hostOps2 (W6 m c)
/-- The arrays when the third call is entered. -/
abbrev atMlp : Arrays F := fun c b => W7 m c b
/-- What the third call leaves in its result. -/
def scored (c : Dev nD) : Buf (Elt F) ((c : Thread nD τ).loc main_v12) := (dat2 (atMlp m) c).arrAt 9 cfg2.N
/-- The contents after the third call. -/
abbrev W8 (c : Dev nD) : Valuation τ sig (Elt F) := Function.update (W7 m c) main_v12 (scored m c)
/-- The contents at the end. -/
abbrev W9 (c : Dev nD) : Valuation τ sig (Elt F) := StableHlo.after hostOps3 (W8 m c)

/-- What each call leaves in each array. -/
def outs : Outs (F := F) := fun J r c => match J with
  | 5 => W5 m c r
  | 6 => W6 m c r
  | _ => W8 m c r

theorem V5_eq (c : Dev nD) : V5 m (outs m) c = W5 m c := by
  show Function.update (V4 m c) main_v6 (W5 m c main_v6) = _
  rw [show W5 m c main_v6 = binned m c from Function.update_self ..]
theorem V6_eq (c : Dev nD) : V6 m (outs m) c = W6 m c := by
  show Function.update (V5 m (outs m) c) main_v7 (W6 m c main_v7) = _
  rw [show W6 m c main_v7 = permuted m c from Function.update_self .., V5_eq]
theorem V7_eq (c : Dev nD) : V7 m (outs m) c = W7 m c := by
  show StableHlo.after hostOps2 (V6 m (outs m) c) = _
  rw [V6_eq]
theorem V8_eq (c : Dev nD) : V8 m (outs m) c = W8 m c := by
  show Function.update (V7 m (outs m) c) main_v12 (W8 m c main_v12) = _
  rw [show W8 m c main_v12 = scored m c from Function.update_self .., V7_eq]
theorem V9_eq (c : Dev nD) : V9 m (outs m) c = W9 m c := by
  show StableHlo.after hostOps3 (V8 m (outs m) c) = _
  rw [V8_eq]

/-- The proof data of the calls, each from the contents it is entered with. -/
def dats : Dats F := fun p c => match p with
  | 0 => dat0 (atBin m) c
  | 1 => dat1 (atPerm m) c
  | 2 => dat2 (atMlp m) c

theorem W5_off (c : Dev nD) (b : Ref sig .tc) (h : b ≠ main_v6) : W5 m c b = V4 m c b :=
  Function.update_of_ne (fun e => h (Proc.devRef_injective _ e)) _ _
theorem W6_off (c : Dev nD) (b : Ref sig .tc) (h : b ≠ main_v7) : W6 m c b = W5 m c b :=
  Function.update_of_ne (fun e => h (Proc.devRef_injective _ e)) _ _
theorem W8_off (c : Dev nD) (b : Ref sig .tc) (h : b ≠ main_v12) : W8 m c b = W7 m c b :=
  Function.update_of_ne (fun e => h (Proc.devRef_injective _ e)) _ _

/-- The first call as a step. -/
def step0 : RegionSeg (pcfgs (F := F)) adm (dats m) () defs₀ Variants.none lvls rank 0 :=
  callSeg (dats m) 0 launch0 (atBin m) (atPerm m) (fun c => (body0 (atBin m) c).loose) (fun _ _ => rfl) (fun _ _ => rfl) (fun _ _ => rfl)
    (fun _ _ => rfl) (fun _ => .rfl) (fun _ => .rfl)
    (fun c w => by
      match w with
      | 0 => exact ((dat0 (atBin m) c).arrAt_in 0 rfl _).trans (W5_off m c (Pipeline.arrRef spec0 0) (by decide)).symm
      | 1 => exact ((dat0 (atBin m) c).arrAt_in 1 rfl _).trans (W5_off m c (Pipeline.arrRef spec0 1) (by decide)).symm
      | 2 => exact ((dat0 (atBin m) c).arrAt_in 2 rfl _).trans (W5_off m c (Pipeline.arrRef spec0 2) (by decide)).symm
      | 3 => exact ((dat0 (atBin m) c).arrAt_in 3 rfl _).trans (W5_off m c (Pipeline.arrRef spec0 3) (by decide)).symm
      | 4 => exact (Function.update_self (main_v6 : DevRef τ sig) (binned m c) (V4 m c)).symm)
    (fun c b hb => W5_off m c b fun h => hb (h ▸ Finset.mem_image.mpr ⟨4, Finset.mem_univ _, rfl⟩))

/-- The second call as a step. -/
def step1 : RegionSeg (pcfgs (F := F)) adm (dats m) () defs₀ Variants.none lvls rank 1 :=
  callSeg (dats m) 1 launch1 (atPerm m) (fun c b => W6 m c b) (fun c => body1 (atPerm m) c) (fun _ _ => rfl) (fun _ _ => rfl) (fun _ _ => rfl)
    (fun _ _ => rfl) (fun _ => .rfl) (fun _ => .rfl)
    (fun c w => by
      match w with
      | 0 => exact ((dat1 (atPerm m) c).arrAt_in 0 rfl _).trans (W6_off m c (Pipeline.arrRef spec1 0) (by decide)).symm
      | 1 => exact (Function.update_self (main_v7 : DevRef τ sig) (permuted m c) (W5 m c)).symm)
    (fun c b hb => W6_off m c b fun h => hb (h ▸ Finset.mem_image.mpr ⟨1, Finset.mem_univ _, rfl⟩))

theorem split2 (c : Dev nD) : (Pipeline.scopedRest spec2 c : sProp (Mt F))
    = iprop((∃ f, owns (c : Thread nD τ) (Memref.whole cc2_scratch0) fullShare f) ∗ Pipeline.scopedRestBut spec2 c [cc2_scratch0]) := by
  rw [Pipeline.scopedRest_split_of_list spec2 c [cc2_scratch0] ⟨rfl, by decide⟩ (by decide)]
  simp only [owns_whole]
  rfl

/-- The third call starts with anything in its scratch. -/
theorem enter2 (V : Arrays F) (c : Dev nD) : (Pipeline.scopedRest spec2 c : sProp (Mt F)) ⊢ (dat2 V c).Φ 0 := by
  rw [split2, show (dat2 V c).Φ 0 = carry2 V c 0 from rfl]
  unfold carry2
  iintro ⟨⟨%f, Hf⟩, Hr⟩
  isplitl [Hf]
  · iexists f
    isplitr
    · ipureintro; exact ⟨fun h => absurd h (by decide), fun h => absurd h (by decide)⟩
    iexact Hf
  iexact Hr

/-- It ends with something in its scratch. -/
theorem leave2 (V : Arrays F) (c : Dev nD) : (dat2 V c).Φ (Fin.last _) ⊢ (Pipeline.scopedRest spec2 c : sProp (Mt F)) := by
  rw [split2, show (dat2 V c).Φ (Fin.last _) = carry2 V c 6 from rfl]
  unfold carry2
  iintro ⟨⟨%s, -, Hs⟩, Hr⟩
  isplitl [Hs]
  · iexists s; iexact Hs
  iexact Hr

/-- The third call writes its last window's array and no other. -/
theorem left2 (c : Dev nD) (w : Fin cfg2.W) : (dat2 (atMlp m) c).arrAt w cfg2.N = W8 m c (Pipeline.arrRef spec2 w) := by
  by_cases h : w = 9
  · subst h
    exact (Function.update_self (main_v12 : DevRef τ sig) (scored m c) (W7 m c)).symm
  · exact ((dat2 (atMlp m) c).arrAt_in w ((by decide : ∀ w : Fin cfg2.W, w ≠ 9 → (cfg2.win w).isOut = false) w h) _).trans
      (W8_off m c _ ((by decide : ∀ w : Fin cfg2.W, w ≠ 9 → Pipeline.arrRef spec2 w ≠ main_v12) w h)).symm

/-- The third call as a step. -/
def step2 : RegionSeg (pcfgs (F := F)) adm (dats m) () defs₀ Variants.none lvls rank 2 :=
  callSeg (dats m) 2 launch2 (atMlp m) (fun c b => W8 m c b) (fun c => (body2 (atMlp m) c).loose) (fun _ _ => rfl) (fun _ _ => rfl) (fun _ _ => rfl)
    (fun _ _ => rfl) (enter2 _) (leave2 _)
    (left2 m)
    (fun c b hb => W8_off m c b fun h => hb (h ▸ Finset.mem_image.mpr ⟨9, Finset.mem_univ _, rfl⟩))

/-- The launch's own ghost state: the calls' cells before any copy. -/
def ghost : UR sig nD τ := initOf (Pipeline.cells cfgs cellOf_inj) (Pipeline.launchToks cfgs cellOf_inj)

/-- That ghost state among the program's resources. -/
def into : Emb (UR sig nD τ) (Mt F) :=
  (Emb.refl _).trans (uEmb (nD := nD) (sig := sig) (Ix := Unit) (Val := Elt F) (Name := ℕ) (U := UR sig nD τ) (Lvl := ℕ)).toEmb

instance into_lands : (into : Emb (UR sig nD τ) (Mt F)).LandsIn (upEmb : UEmb _ (Mt F)) := by unfold into; infer_instance

variable (ρ : Dev nD → PrngReg)

/-- What the launch hands a core, of which the calls need that it owes nothing. -/
theorem begun : iprop((bigSep Finset.univ fun c : Dev nD => iprop(unscopedSems0 c ∗ owes (c : Thread nD τ) (0 : CellTallies nD τ sig Unit) ∅
      ∗ Pipeline.launchCred (fun _ => 0) c ∗ prngReg c (ρ c) ∗ BI.emp)) ∗ levAts lvls rank)
    ⊢ (|={Set.univ}=> bigSep Finset.univ fun c : Dev nD => quiet c : sProp (Mt F)) := by
  have h : (bigSep Finset.univ fun c : Dev nD => iprop(unscopedSems0 c ∗ owes (c : Thread nD τ) (0 : CellTallies nD τ sig Unit) ∅
      ∗ Pipeline.launchCred (fun _ => 0) c ∗ prngReg c (ρ c) ∗ BI.emp)) ⊢ (bigSep Finset.univ fun c : Dev nD => quiet c : sProp (Mt F)) :=
    bigSep_mono fun c _ => by
      show (iprop(unscopedSems0 c ∗ owes (c : Thread nD τ) (0 : CellTallies nD τ sig Unit) ∅
        ∗ Pipeline.launchCred (fun _ => 0) c ∗ prngReg c (ρ c) ∗ BI.emp) : sProp (Mt F)) ⊢ quiet c
      iintro ⟨-, HO, -⟩
      iexists ∅; iexact HO
  iintro ⟨H, -⟩
  imodintro
  iapply h; iexact H

set_option backward.isDefEq.respectTransparency.types false in
/-- Every run of the program ends with every array it does not pass through a call's own memory at `W9`. -/
theorem ends : θ_run defs (onTc (τ := τ) (main (F := F))) ⟨m, fun _ => 0, ρ⟩ (fun r =>
    (∀ c : Dev nD, ∀ b ∈ Pipeline.ucRefs τ sig, r.2.mem (((c : Thread nD τ).1, b)) = V9 m (outs m) c b) ∧ r.2.sem = fun _ => 0) := by
  refine Pipeline.θ_run_regions_kit_dev_sems (pcfgs (F := F)) adm (dats m) () cellOf_inj into defs₀ Variants.none lvls rank m ρ main
    (segs m (outs m) Variants.none lvls rank (fun _ c => quiet c) () (dats m) (step0 m) (step1 m) (step2 m))
    (fun c Q => by
      rewrite [main_chain c, Seg.run_eq_chain]
      exact .rfl)
    (fun c => by simp only [segs, Seg.pipes_host, Seg.pipes_region, Seg.pipes_nil]; decide)
    (fun _ => 0) (fun _ _ => rfl) (fun _ => BI.emp) ghost ?_
    (T₀ := fun c => iprop(StableHlo.held (c : Thread nD τ) (Pipeline.ucRefs τ sig) (V0 m c) ∗ quiet c))
    (Tₙ := fun c => StableHlo.held (c : Thread nD τ) (Pipeline.ucRefs τ sig) (V9 m (outs m) c))
    (hch := fun c => ⟨.rfl, .rfl, .rfl, .rfl, ?_, ?_, ?_, ?_, ?_, sep_mono .rfl .rfl⟩)
    (hinit := ?_) (QY := fun c s => ∀ b ∈ Pipeline.ucRefs τ sig, s.mem (((c : Thread nD τ).1, b)) = V9 m (outs m) c b)
    (hfin := fun c s' => ?_) (hQ := fun _ h hz => ⟨h, funext fun g => hz g (.inr (regions_no_unscoped g.2))⟩)
  · iintro Hu
    imodintro
    isplitl [Hu]
    · iapply (show (ownU ghost : sProp (Mt F)) ⊢ BI.own (into (initOf (Pipeline.cells cfgs cellOf_inj) (Pipeline.launchToks cfgs cellOf_inj))) from .rfl)
      iexact Hu
    iapply (show (BI.emp : sProp (Mt F)) ⊢ bigSep Finset.univ (fun _ : Dev nD => BI.emp) from by rw [BI.bigSep_emp_const])
    iempintro
  · exact sep_mono (Entails.of_eq (Pipeline.unscopedBufs_held c (V4 m c)).symm) .rfl
  · exact .rfl
  · show iprop(unscopedBufs c (fun b : Ref sig .tc => W6 m c b) ∗ quiet c)
      ⊢ iprop(StableHlo.held (c : Thread nD τ) (Pipeline.ucRefs τ sig) (V6 m (outs m) c) ∗ quiet c)
    rw [V6_eq]
    exact sep_mono (Entails.of_eq (Pipeline.unscopedBufs_held c (W6 m c))) .rfl
  · show iprop(StableHlo.held (c : Thread nD τ) (Pipeline.ucRefs τ sig) (V7 m (outs m) c) ∗ quiet c)
      ⊢ iprop(unscopedBufs c (fun b : Ref sig .tc => W7 m c b) ∗ quiet c)
    rw [V7_eq]
    exact sep_mono (Entails.of_eq (Pipeline.unscopedBufs_held c (W7 m c)).symm) .rfl
  · show iprop(unscopedBufs c (fun b : Ref sig .tc => W8 m c b) ∗ quiet c)
      ⊢ iprop(StableHlo.held (c : Thread nD τ) (Pipeline.ucRefs τ sig) (V8 m (outs m) c) ∗ quiet c)
    rw [V8_eq]
    exact sep_mono (Entails.of_eq (Pipeline.unscopedBufs_held c (W8 m c))) .rfl
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => 0) c ∗ prngReg c (ρ c) ∗ BI.emp)) : sProp (Mt F)) := by
      rw [← bigSep_sep']
      exact bigSep_mono fun c _ => sep_mono (Entails.of_eq (Pipeline.unscopedBufs_held c (V0 m c))) .rfl
    iintro ⟨H, Hla⟩
    ihave H' := hsplit $$ H
    icases H' with ⟨Hh, Hr⟩
    imod (begun ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro; exact h
    iexact HSI

theorem mem_uc (b : Ref sig .tc) (h : ¬ b.isScoped) : Proc.devRef .tc b ∈ Pipeline.ucRefs τ sig :=
  Finset.mem_filter.mpr ⟨StableHlo.devRef_mem_tcRefs b, h⟩

/-- Every run of the program ends with the arguments as they were, the result at the contents the last stretch gives it, and no
signal left. -/
theorem runs : θ_run defs (onTc (τ := τ) (main (F := F))) ⟨m, fun _ => 0, ρ⟩ (fun r => (∀ c : Dev nD,
      r.2.mem ((c.tc : Thread nD τ).loc main_v14) = W9 m c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h.1 c _ (mem_uc main_v14 (by decide))).trans (congrFun (V9_eq m c) _),
      (h.1 c _ (mem_uc main_arg0 (by decide))).trans (V9_main_arg0 m (outs m) c),
      (h.1 c _ (mem_uc main_arg1 (by decide))).trans (V9_main_arg1 m (outs m) c),
      (h.1 c _ (mem_uc main_arg2 (by decide))).trans (V9_main_arg2 m (outs m) c),
      (h.1 c _ (mem_uc main_arg3 (by decide))).trans (V9_main_arg3 m (outs m) c),
      (h.1 c _ (mem_uc main_arg4 (by decide))).trans (V9_main_arg4 m (outs m) c),
      (h.1 c _ (mem_uc main_arg5 (by decide))).trans (V9_main_arg5 m (outs m) c),
      (h.1 c _ (mem_uc main_arg6 (by decide))).trans (V9_main_arg6 m (outs m) c),
      (h.1 c _ (mem_uc main_arg7 (by decide))).trans (V9_main_arg7 m (outs m) c),
      (h.1 c _ (mem_uc main_arg8 (by decide))).trans (V9_main_arg8 m (outs m) c),
      (h.1 c _ (mem_uc main_arg9 (by decide))).trans (V9_main_arg9 m (outs m) c),
      (h.1 c _ (mem_uc main_arg10 (by decide))).trans (V9_main_arg10 m (outs m) c),
      (h.1 c _ (mem_uc main_arg11 (by decide))).trans (V9_main_arg11 m (outs m) c)⟩, h.2⟩) (ends m ρ)

end Cert.KernelIdeal.Hand

end
-- ==== Proof.Meaning.lean ====
module

public import Idealize.ShloMosaic.Lib.Pointwise

/-!
  The problem's mathematics on the extended reals, in the words both programs are measured against: the bin a peak
  falls in, a spectrum's histogram, the grouped features, the dense layers, and the cosine of two embeddings.
-/

@[expose] public section

noncomputable section

namespace Cert.Spectra

open Idealize.ShloMosaic

/-- The layer `x · w + b`. -/
def dense {K N : ℕ} (x : Fin K → EReal) (w : Fin K → Fin N → EReal) (b : Fin N → EReal) (n : Fin N) : EReal :=
  (∑ k, x k * w k n) + b n

/-- The positive part of a row. -/
def relu {K : ℕ} (x : Fin K → EReal) (k : Fin K) : EReal := max (x k) 0

/-- The three layers behind the first one. -/
def embed (h : Fin 1000 → EReal) (w1 : Fin 1000 → Fin 800 → EReal) (b1 : Fin 800 → EReal)
    (w2 : Fin 800 → Fin 800 → EReal) (b2 : Fin 800 → EReal) (we : Fin 800 → Fin 400 → EReal) (be : Fin 400 → EReal) :
    Fin 400 → EReal :=
  dense (relu (dense (relu (dense (relu h) w1 b1)) w2 b2)) we be

/-- The length of a row, no smaller than the printed threshold. -/
def len (u : Fin 400 → EReal) : EReal := max (Ideal.sqrt (∑ e, u e * u e)) (Ideal.ofBits .f32 0x358637BD#32)

/-- The cosine of two rows. -/
def cosine (u v : Fin 400 → EReal) : EReal := Ideal.div (∑ e, u e * v e) (len u * len v)

/-- The word of the bin that a mass falls in. -/
def bin (z : EReal) : BitVec 32 :=
  IntOp.minsi 99999#32 (IntOp.maxsi 0#32
    (Ideal.fptosi 32 (Ideal.div (z - Ideal.ofBits .f32 0x00000000#32) (Ideal.ofBits .f32 0x3C23D70A#32))))

/-- What a peak of mass `z` and intensity `t` adds to its bin. -/
def peak (z t : EReal) : EReal :=
  Scalar.select (IntOp.andi (Ideal.cmp .oge z (Ideal.ofBits .f32 0x00000000#32))
    (Ideal.cmp .olt z (Ideal.ofBits .f32 0x447A0000#32))) (Ideal.sqrt t) 0

/-- A spectrum's histogram. -/
def hist (z t : Fin 512 → EReal) (n : ℕ) : EReal :=
  ∑ p, if (bin (z p)).toNat = n then peak (z p) (t p) else 0

/-- One output of one group of thirty bins. -/
def feature (z t : Fin 512 → EReal) (w : Fin 3333 → Fin 30 → Fin 3 → EReal) (b : Fin 3333 → Fin 3 → EReal)
    (g : Fin 3333) (o : Fin 3) : EReal :=
  (∑ i : Fin 30, hist z t (g.val * 30 + i.val) * w g i o) + b g o

/-- A spectrum's features in one row, a group's three outputs side by side. -/
def features (z t : Fin 512 → EReal) (w : Fin 3333 → Fin 30 → Fin 3 → EReal) (b : Fin 3333 → Fin 3 → EReal)
    (k : Fin 9999) : EReal :=
  feature z t w b ⟨k.val / 3, by omega⟩ ⟨k.val % 3, by omega⟩

end Cert.Spectra
-- ==== Proof.Words.lean ====
module

public import proofs.«01_k».proof.Proof.Meaning

/-!
  The words of the bins: a bin's word is below 100000, so its signed quotient and remainder by thirty are the quotient
  and remainder of the number it holds, and both survive the cut to sixteen bits.
-/

@[expose] public section

namespace Cert.Spectra

open Idealize.ShloMosaic

theorem toInt_small (w : BitVec 32) (h : w.toNat < 100000) : w.toInt = (w.toNat : ℤ) :=
  BitVec.toInt_eq_toNat_of_lt (by omega)

/-- The two bounds hold a word below 100000. -/
theorem clip_small (w : BitVec 32) : (IntOp.minsi 99999#32 (IntOp.maxsi 0#32 w)).toNat < 100000 := by
  unfold IntOp.minsi IntOp.maxsi
  by_cases h0 : w.slt 0#32
  · rw [if_pos h0]; decide
  rw [if_neg h0]
  by_cases h1 : (99999#32).slt w
  · rw [if_pos h1]; decide
  rw [if_neg h1]
  simp only [BitVec.slt, decide_eq_true_eq] at h0 h1
  have e0 : (0#32).toInt = 0 := by decide
  have e1 : (99999#32).toInt = 99999 := by decide
  rw [e0] at h0
  rw [e1] at h1
  have hw := w.isLt
  have h2 := BitVec.toInt_eq_toNat_cond w
  split at h2 <;> omega

theorem bin_small (z : EReal) : (bin z).toNat < 100000 := clip_small _

/-- The quotient by thirty. -/
theorem quot_word (u : ArithUnit) (w : BitVec 32) (h : w.toNat < 100000) :
    IntOp.divsi u w 30#32 = BitVec.ofNat 32 (w.toNat / 30) := by
  have hc : ¬IntOp.SDivCorner w 30#32 := by
    unfold IntOp.SDivCorner
    simp
  unfold IntOp.divsi
  rw [if_neg hc, BitVec.sdiv_eq]
  have hm : w.msb = false := by rw [BitVec.msb_eq_false_iff_two_mul_lt]; omega
  have hn : (30#32).msb = false := by decide
  rw [hm, hn]
  apply BitVec.eq_of_toNat_eq
  simp only [BitVec.udiv_eq, BitVec.toNat_udiv, BitVec.toNat_ofNat]
  show w.toNat / 30 = _
  omega

/-- The remainder by thirty. -/
theorem rem_word (u : ArithUnit) (w : BitVec 32) (h : w.toNat < 100000) :
    IntOp.remsi u w 30#32 = BitVec.ofNat 32 (w.toNat % 30) := by
  have hc : ¬IntOp.SDivCorner w 30#32 := by
    unfold IntOp.SDivCorner
    simp
  unfold IntOp.remsi
  rw [if_neg hc, BitVec.srem_eq]
  have hm : w.msb = false := by rw [BitVec.msb_eq_false_iff_two_mul_lt]; omega
  have hn : (30#32).msb = false := by decide
  rw [hm, hn]
  apply BitVec.eq_of_toNat_eq
  simp only [BitVec.umod_eq, BitVec.toNat_umod, BitVec.toNat_ofNat]
  show w.toNat % 30 = _
  omega

/-- The rounding down that the program prints: one less where the signs differ and the division leaves something. -/
abbrev down (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 30#32 0#32)) (Scalar.extui (Scalar.cmpi .slt 30#32 0#32))))
      (IntOp.cmpi .ne (IntOp.remsi .vector w 30#32) 0#32))
    (IntOp.subi (IntOp.divsi .vector w 30#32) 1#32) (IntOp.divsi .vector w 30#32)

theorem down_word (w : BitVec 32) (h : w.toNat < 100000) : down w = BitVec.ofNat 32 (w.toNat / 30) := by
  unfold down
  rw [quot_word _ _ h, rem_word _ _ h]
  have e : Scalar.subi (Scalar.extui (Scalar.cmpi .sgt 30#32 0#32)) (Scalar.extui (Scalar.cmpi .slt 30#32 0#32))
      = 1#32 := by decide
  have e0 : (0#32).toInt = 0 := by decide
  rw [e]
  by_cases hz : w.toNat = 0
  · have : w = 0#32 := BitVec.eq_of_toNat_eq hz
    subst this
    decide
  · have h1 : IntOp.cmpi .sgt w 0#32 = 1#1 := by
      unfold IntOp.cmpi
      simp only [BitVec.slt, toInt_small w h, e0]
      rw [decide_eq_true (by omega)]
      rfl
    have h2 : IntOp.cmpi .slt w 0#32 = 0#1 := by
      unfold IntOp.cmpi
      simp only [BitVec.slt, toInt_small w h, e0]
      rw [decide_eq_false (by omega)]
      rfl
    rw [h1, h2]
    have h3 : IntOp.cmpi .ne (IntOp.subi (BitVec.setWidth 32 1#1) (BitVec.setWidth 32 0#1)) 1#32 = 0#1 := by decide
    rw [h3]
    have h4 (x : BitVec 1) : IntOp.andi 0#1 x = 0#1 := by
      unfold IntOp.andi
      exact BitVec.zero_and
    rw [h4]
    exact if_neg (by decide)

/-- The group of a bin. -/
theorem down_short (w : BitVec 32) (h : w.toNat < 100000) :
    BitVec.setWidth 16 (down w) = BitVec.ofNat 16 (w.toNat / 30) := by
  rw [down_word w h]
  apply BitVec.eq_of_toNat_eq
  simp only [BitVec.toNat_setWidth, BitVec.toNat_ofNat]
  omega

/-- The place of a bin in its group. -/
theorem rest_short (w : BitVec 32) (h : w.toNat < 100000) :
    BitVec.setWidth 16 (IntOp.subi w (IntOp.muli (down w) 30#32)) = BitVec.ofNat 16 (w.toNat % 30) := by
  rw [down_word w h]
  apply BitVec.eq_of_toNat_eq
  unfold IntOp.subi IntOp.muli
  simp only [BitVec.toNat_setWidth, BitVec.toNat_ofNat, BitVec.toNat_sub, BitVec.toNat_mul]
  omega

/-- Two short words are equal when the numbers are. -/
theorem eq_short (a b : ℕ) (ha : a < 65536) (hb : b < 65536) :
    IntOp.cmpi .eq (BitVec.ofNat 16 a) (BitVec.ofNat 16 b) = if a = b then 1#1 else 0#1 := by
  unfold IntOp.cmpi
  by_cases h : a = b
  · subst h
    simp
  · rw [if_neg h]
    have : ¬BitVec.ofNat 16 a = BitVec.ofNat 16 b := fun e => h (by
      have := congrArg BitVec.toNat e
      simp only [BitVec.toNat_ofNat] at this
      omega)
    show BitVec.ofBool (BitVec.ofNat 16 a == BitVec.ofNat 16 b) = 0#1
    rw [beq_eq_false_iff_ne.2 this]
    rfl

/-- The comparison with the first bin that no group has. -/
theorem grouped_word (w : BitVec 32) (h : w.toNat < 100000) :
    IntOp.cmpi .slt w 99990#32 = if w.toNat < 99990 then 1#1 else 0#1 := by
  have e : (99990#32).toInt = 99990 := by decide
  unfold IntOp.cmpi
  simp only [BitVec.slt, toInt_small w h, e]
  by_cases hw : w.toNat < 99990
  · rw [if_pos hw, decide_eq_true (by omega)]; rfl
  · rw [if_neg hw, decide_eq_false (by omega)]; rfl

end Cert.Spectra
-- ==== Proof.BinValue.lean ====
module

public import proofs.«01_k».proof.Proof.BinFill
public import proofs.«01_k».proof.Proof.Words

/-!
  What one block of the first call computes, read at an index: the two one-hot tables (the place of a peak in its group
  and its group), their product, and the weighted sums that are stored.
-/

@[expose] public section

noncomputable section

namespace Cert.KernelIdeal.Hand

open Cert.KernelIdeal Cert.KernelIdeal.Gen Cert.Spectra
open Idealize.ShloMosaic

/-- The bins, a column per spectrum. -/
theorem idx_col (x : Vec Ideal S8x512 .f32) (p : Fin 512) (s : Fin 8) :
    k0_pay2 (F := Ideal) x (ix2 p s) = bin (x (ix2 s p)) := by
  pointwise [k0_pay2, k0_pay1, bin]
  rfl

/-- The bins, a row per spectrum. -/
theorem idx_row (x : Vec Ideal S8x512 .f32) (p : Fin 512) (s : Fin 8) :
    k0_pay8 (F := Ideal) x (ix2 s p) = bin (x (ix2 s p)) := by
  pointwise [k0_pay8, bin]
  rfl

/-- The peaks that a group has, a column per spectrum. -/
theorem val_col (x y : Vec Ideal S8x512 .f32) (p : Fin 512) (s : Fin 8) :
    k0_pay3 (F := Ideal) x y (ix2 p s) = if (bin (x (ix2 s p))).toNat < 99990 then peak (x (ix2 s p)) (y (ix2 s p)) else 0 := by
  pointwise [k0_pay3, k0_pay1, peak, idx_col]
  rw [grouped_word _ (bin_small _)]
  generalize IntOp.andi (BitVec.ofBool (decide (0 ≤ x (ix2 s p))))
    (BitVec.ofBool (decide (x (ix2 s p) < Ideal.ofBits FTy.f32 1148846080#32))) = c
  by_cases h : (bin (x (ix2 s p))).toNat < 99990
  · rw [if_pos h, if_pos h]
    have : IntOp.andi c 1#1 = c := by unfold IntOp.andi; revert c; decide
    rw [this]
  · rw [if_neg h, if_neg h]
    have : IntOp.andi c 0#1 = 0#1 := by unfold IntOp.andi; revert c; decide
    rw [this]
    exact if_neg (by decide)

/-- The group of a peak. -/
theorem group_col (x : Vec Ideal S8x512 .f32) (p : Fin 512) (s : Fin 8) :
    k0_pay6 (k0_pay2 (F := Ideal) x) 30#32 (k0_pay4 x) (k0_pay5 x) (ix2 p s) = BitVec.ofNat 16 ((bin (x (ix2 s p))).toNat / 30) := by
  pointwise [k0_pay6, k0_pay4, k0_pay5, idx_col]
  exact down_short _ (bin_small _)

/-- The place of a peak in its group. -/
theorem place_row (x : Vec Ideal S8x512 .f32) (p : Fin 512) (s : Fin 8) :
    k0_pay10 (k0_pay8 (F := Ideal) x) (k0_pay9 x) (ix2 s p) = BitVec.ofNat 16 ((bin (x (ix2 s p))).toNat % 30) := by
  pointwise [k0_pay10, k0_pay9, idx_row]
  exact rest_short _ (bin_small _)

/-- The product of the two one-hot tables sums the peaks of one bin. -/
theorem binSums_at (x1 x2 : Vec Ideal S8x512 .f32) (s : Fin 8) (i : Fin 32) (g : Fin 3456) :
    binSums x1 x2 s (ix2 i g) = ∑ p, if (bin (x1 (ix2 s p))).toNat = g.val * 30 + i.val ∧ i.val < 30 then
      if (bin (x1 (ix2 s p))).toNat < 99990 then peak (x1 (ix2 s p)) (x2 (ix2 s p)) else 0 else 0 := by
  pointwise [binSums, k0_pay7, val_col, group_col, place_row]
  refine Finset.sum_congr rfl fun p _ => ?_
  have hb := bin_small (x1 (ix2 s p))
  have hg := g.isLt
  have hi := i.isLt
  rw [eq_short _ _ (by omega) (by omega), eq_short _ _ (by omega) (by omega)]
  by_cases h1 : g.val = (bin (x1 (ix2 s p))).toNat / 30
  · rw [if_pos h1]
    by_cases h2 : i.val = (bin (x1 (ix2 s p))).toNat % 30
    · rw [if_pos h2, if_pos (show _ ∧ _ by omega)]
      rfl
    · rw [if_neg h2, if_neg (show ¬(_ ∧ _) by omega)]
      exact (if_pos rfl).trans (if_neg (by decide))
  · rw [if_neg h1, if_neg (show ¬(_ ∧ _) by omega)]
    exact if_neg (by decide)

/-- What is stored of a spectrum. -/
theorem binOut_at (x1 x2 : Vec Ideal S8x512 .f32) (x3 : Vec Ideal S3x32x3456 .f32) (x4 : Vec Ideal S8x3456 .f32) (o : Fin 3) (s : Fin 8) (g : Fin 3456) :
    binOut x1 x2 x3 x4 (ix3 o s g) = (∑ i : Fin 32, binSums x1 x2 s (ix2 i g) * x3 (ix3 o i g)) + x4 (ix2 ⟨o.val, by omega⟩ g) := by
  pointwise [binOut, k0_pay16, wPlane, bRow, inRow]

end Cert.KernelIdeal.Hand
-- ==== Proof.BinArray.lean ====
module

public import proofs.«01_k».proof.Proof.BinValue
public import proofs.«01_k».proof.Proof.BinPoints
public import Idealize.ShloMosaic.Lib.Pipeline.ValueKit

/-!
  The array the first call leaves: its blocks of eight spectra tile it, and a spectrum's outputs are read from its own
  masses and intensities.
-/

@[expose] public section

noncomputable section

namespace Cert.KernelIdeal.Hand

open Cert.KernelIdeal Cert.KernelIdeal.Gen Cert.Spectra
open Idealize.ShloMosaic Idealize.ShloMosaic.TcCoe

/-- Row `i` of group `g` as the first call's product makes it. -/
def height (z t : Fin 512 → EReal) (g i : ℕ) : EReal :=
  ∑ p, if (bin (z p)).toNat = g * 30 + i ∧ i < 30 then
    if (bin (z p)).toNat < 99990 then peak (z p) (t p) else 0 else 0

/-- Output `o` of group `g` of a spectrum, over the padded weights. -/
def widened (z t : Fin 512 → EReal) (w : Vec Ideal S3x32x3456 .f32) (b : Vec Ideal S8x3456 .f32) (o : Fin 3) (g : Fin 3456) :
    EReal :=
  (∑ i : Fin 32, height z t g.val i.val * w (ix3 o i g)) + b (ix2 ⟨o.val, by omega⟩ g)

variable (V : Arrays Ideal) (c : Dev nD)

/-- The masses of a spectrum. -/
def massOf (x : Vec Ideal S512x512 .f32) (r : Fin 512) (p : Fin 512) : EReal := x (ix2 r p)

theorem place0_0 : ∀ t : Fin grid0.N, win0_0.index t = ![t.val, 0] := by decide +kernel
theorem place0_1 : ∀ t : Fin grid0.N, win0_1.index t = ![t.val, 0] := by decide +kernel
theorem place0_2 : ∀ t : Fin grid0.N, win0_2.index t = ![0, 0, 0] := by decide +kernel
theorem place0_3 : ∀ t : Fin grid0.N, win0_3.index t = ![0, 0] := by decide +kernel
theorem place0_4 : ∀ t : Fin grid0.N, win0_4.index t = ![0, t.val, 0] := by decide +kernel

/-- Row `s` of the block of point `t`. -/
def rowAt (t : Fin cfg0.N) (s : Fin 8) : Fin 512 := ⟨t.val * 8 + s.val, by have : t.val < 64 := t.isLt.trans_eq N_0; omega⟩

/-- Where the blocks lie in their arrays. -/
theorem emb0_0 (t : Fin cfg0.N) (s : Fin 8) (p : Fin 512) : (win0_0.blk t).view.emb (ix2 s p) = ix2 (rowAt t s) p := by
  funext a
  match a with
  | 0 => exact Fin.ext (by blk_simp [place0_0] <;> rfl)
  | 1 => exact Fin.ext (by blk_simp [place0_0] <;> rfl)

theorem emb0_1 (t : Fin cfg0.N) (s : Fin 8) (p : Fin 512) : (win0_1.blk t).view.emb (ix2 s p) = ix2 (rowAt t s) p := by
  funext a
  match a with
  | 0 => exact Fin.ext (by blk_simp [place0_1] <;> rfl)
  | 1 => exact Fin.ext (by blk_simp [place0_1] <;> rfl)

theorem emb0_2 (t : Fin cfg0.N) (o : Fin 3) (i : Fin 32) (g : Fin 3456) :
    (win0_2.blk t).view.emb (ix3 o i g) = ix3 o i g := by
  funext a
  match a with
  | 0 => exact Fin.ext (by blk_simp [place0_2] <;> rfl)
  | 1 => exact Fin.ext (by blk_simp [place0_2] <;> rfl)
  | 2 => exact Fin.ext (by blk_simp [place0_2] <;> rfl)

theorem emb0_3 (t : Fin cfg0.N) (o : Fin 8) (g : Fin 3456) : (win0_3.blk t).view.emb (ix2 o g) = ix2 o g := by
  funext a
  match a with
  | 0 => exact Fin.ext (by blk_simp [place0_3] <;> rfl)
  | 1 => exact Fin.ext (by blk_simp [place0_3] <;> rfl)

theorem emb0_4 (t : Fin cfg0.N) (o : Fin 3) (s : Fin 8) (g : Fin 3456) :
    (win0_4.blk t).view.emb (ix3 o s g) = ix3 o (rowAt t s) g := by
  funext a
  match a with
  | 0 => exact Fin.ext (by blk_simp [place0_4] <;> rfl)
  | 1 => exact Fin.ext (by blk_simp [place0_4] <;> rfl)
  | 2 => exact Fin.ext (by blk_simp [place0_4] <;> rfl)

theorem blk0_0 (t : Fin cfg0.N) (s : Fin 8) (p : Fin 512) :
    blk0 V c 0 t (ix2 s p) = V c main_v0 (ix2 (rowAt t s) p) := congrArg (V c main_v0) (emb0_0 t s p)
theorem blk0_1 (t : Fin cfg0.N) (s : Fin 8) (p : Fin 512) :
    blk0 V c 1 t (ix2 s p) = V c main_v1 (ix2 (rowAt t s) p) := congrArg (V c main_v1) (emb0_1 t s p)
theorem blk0_2 (t : Fin cfg0.N) (o : Fin 3) (i : Fin 32) (g : Fin 3456) :
    blk0 V c 2 t (ix3 o i g) = V c main_v3 (ix3 o i g) := congrArg (V c main_v3) (emb0_2 t o i g)
theorem blk0_3 (t : Fin cfg0.N) (o : Fin 8) (g : Fin 3456) :
    blk0 V c 3 t (ix2 o g) = V c main_v5 (ix2 o g) := congrArg (V c main_v5) (emb0_3 t o g)

/-- The array the first call leaves. -/
def widenedAll (V : Arrays Ideal) (c : Dev nD) : Vec Ideal S3x512x3456 .bf16 := fun y =>
  widened (massOf (V c main_v0) (y 1)) (massOf (V c main_v1) (y 1)) (V c main_v3) (V c main_v5) (y 0) (y 2)

theorem after0_4 (t : Fin cfg0.N) (o : Fin 3) (s : Fin 8) (g : Fin 3456) :
    (dat0 V c).after 4 t (ix3 o s g) = widenedAll V c (ix3 o (rowAt t s) g) := by
  show binOut (blk0 V c 0 t) (blk0 V c 1 t) (blk0 V c 2 t) (blk0 V c 3 t) (ix3 o s g) = _
  refine (binOut_at _ _ _ _ o s g).trans ?_
  unfold widenedAll widened
  refine congrArg₂ (· + ·) (Finset.sum_congr rfl fun i _ => ?_) (blk0_3 V c t _ g)
  refine congrArg₂ (· * ·) ?_ (blk0_2 V c t o i g)
  refine (binSums_at _ _ s i g).trans (Finset.sum_congr rfl fun p _ => ?_)
  rw [blk0_0, blk0_1]
  rfl

theorem binned_all : (dat0 V c).arrAt 4 cfg0.N = widenedAll V c := by
  refine (dat0 V c).arrAt_eq_of_covers 4 _ (by decide +kernel) fun t hf y => ?_
  obtain ⟨o, s, g, rfl⟩ : ∃ (o : Fin 3) (s : Fin 8) (g : Fin 3456), y = ix3 o s g := ⟨y 0, y 1, y 2, eq_ix3 y⟩
  refine Eq.trans ?_ (congrArg (widenedAll V c) (emb0_4 t o s g)).symm
  blk_simp
  exact after0_4 V c t o s g

end Cert.KernelIdeal.Hand
-- ==== Proof.PermArray.lean ====
module

public import proofs.«01_k».proof.Proof.PermPoints
public import proofs.«01_k».proof.Proof.Meaning
public import Idealize.ShloMosaic.Lib.Pipeline.ValueKit

/-!
  The array the second call leaves: plane `o`, row `n` is row `3 n + o` of the first layer's weights, and zero past
  their end.
-/

@[expose] public section

set_option maxRecDepth 16384

noncomputable section

namespace Cert.KernelIdeal.Hand

open Cert.KernelIdeal Cert.KernelIdeal.Gen Cert.Spectra
open Idealize.ShloMosaic Idealize.ShloMosaic.TcCoe

theorem after_perm {F : FTy → Type} [FloatOps F] (V : Arrays F) (c : Dev nD) (t : Fin cfg1.N) :
    (dat1 V c).after 1 t = permOut (grid1.coords t) (rows1z V c t) := rfl

variable (V : Arrays Ideal) (c : Dev nD)

theorem place1_0 : ∀ t : Fin grid1.N, win1_0.index t = ![t.val, 0] := by decide +kernel
theorem place1_1 : ∀ t : Fin grid1.N, win1_1.index t = ![0, t.val, 0] := by decide +kernel
theorem coord1 : ∀ t : Fin grid1.N, (grid1.coords t 0).val = t.val := by decide +kernel

/-- Row `n` of plane `o` of the weights cut in threes, zero past their end. -/
def cut3 (w : Vec Ideal S9999x1000 .f32) (o n : ℕ) (h : Fin 1000) : EReal :=
  if hk : n * 3 + o < 9999 then w (ix2 ⟨n * 3 + o, hk⟩ h) else 0

/-- A row of the block that the weights have. -/
theorem rows1z_at (t : Fin cfg1.N) (q : Fin 384) (h : Fin 1000) (hq : t.val * 384 + q.val < 9999) :
    rows1z V c t (ix2 q h) = V c main_arg4 (ix2 ⟨t.val * 384 + q.val, hq⟩ h) := by
  have hm : (cfg1.win 0).moved (cfg1.grid.coords t) (ix2 q h) = true := by
    rw [(cfg1.win 0).moved_iff]
    intro a
    have hi := coord1 t
    have ht : t.val < 27 := t.isLt.trans_eq N_1
    have e : (BitVec.ofNat 32 (grid1.coords t 0).val).toNat = t.val := by
      rw [BitVec.toNat_ofNat, hi]; omega
    match a with
    | 0 =>
      show q.val < (Pipeline.Clip.of (BitVec.ofNat 32 (grid1.coords t 0).val).toNat 384 9999).extent 384
      rw [e]
      unfold Pipeline.Clip.of
      split
      · exact q.isLt
      · show _ < 9999 - t.val * 384
        omega
    | 1 => exact h.isLt
  unfold rows1z rows1 Pipeline.Window.fill
  rw [dif_pos hm]
  unfold blk1
  refine congrArg (V c main_arg4) (funext fun a => ?_)
  match a with
  | 0 => exact Fin.ext (by blk_simp [place1_0] <;> rfl)
  | 1 => exact Fin.ext (by blk_simp [place1_0] <;> rfl)

theorem k1_pay1_at (i : grid1.Coords) (x : Vec Ideal S384x1000 .f32) (g : Fin 128) (o : Fin 3) (h : Fin 1000) :
    k1_pay1 (F := Ideal) i x (ix3 g o h)
      = if g.val * 3 + o.val + 384 * (i 0).val < 9999 then x (ix2 ⟨g.val * 3 + o.val, by omega⟩ h) else 0 := by
  have e := kept_row i (ix2 ⟨g.val * 3 + o.val, by omega⟩ h)
  have e' : IntOp.cmpi .slt (BitVec.ofNat 32 (g.val * 3 + o.val))
      (Scalar.subi (9999#32) (Scalar.muli (Scalar.muli (BitVec.ofNat 32 (i 0).val) 3#32) 128#32))
      = if g.val * 3 + o.val + 384 * (i 0).val < 9999 then 1#1 else 0#1 := by
    refine Eq.trans ?_ e
    pointwise
  pointwise [k1_pay1]
  rw [e']
  split
  · rfl
  · rfl

theorem permOut_at (i : grid1.Coords) (x : Vec Ideal S384x1000 .f32) (o : Fin 3) (g : Fin 128) (h : Fin 1000) :
    permOut i x (ix3 o g h) = k1_pay1 (F := Ideal) i x (ix3 g o h) := by
  pointwise [permOut, permPlane, inPlane]

/-- Row `g` of the block of point `t`. -/
def groupAt (t : Fin cfg1.N) (g : Fin 128) : Fin 3456 := ⟨t.val * 128 + g.val, by have : t.val < 27 := t.isLt.trans_eq N_1; omega⟩

theorem emb1_1 (t : Fin cfg1.N) (o : Fin 3) (g : Fin 128) (h : Fin 1000) :
    (win1_1.blk t).view.emb (ix3 o g h) = ix3 o (groupAt t g) h := by
  funext a
  match a with
  | 0 => exact Fin.ext (by blk_simp [place1_1] <;> rfl)
  | 1 => exact Fin.ext (by blk_simp [place1_1] <;> rfl)
  | 2 => exact Fin.ext (by blk_simp [place1_1] <;> rfl)

/-- The array the second call leaves. -/
def cutAll (V : Arrays Ideal) (c : Dev nD) : Vec Ideal S3x3456x1000 .bf16 := fun y =>
  cut3 (V c main_arg4) (y 0).val (y 1).val (y 2)

theorem after1_1 (t : Fin cfg1.N) (o : Fin 3) (g : Fin 128) (h : Fin 1000) :
    permOut (grid1.coords t) (rows1z V c t) (ix3 o g h) = cut3 (V c main_arg4) o.val (t.val * 128 + g.val) h := by
  have hi := coord1 t
  rw [permOut_at, k1_pay1_at]
  unfold cut3
  by_cases hk : (t.val * 128 + g.val) * 3 + o.val < 9999
  · rw [if_pos (by omega), dif_pos hk]
    refine (rows1z_at V c t _ h (show t.val * 384 + (g.val * 3 + o.val) < 9999 by omega)).trans ?_
    have ek : t.val * 384 + (g.val * 3 + o.val) = (t.val * 128 + g.val) * 3 + o.val := by omega
    exact congrArg (fun k => V c main_arg4 (ix2 k h)) (Fin.ext ek)
  · rw [if_neg (by omega), dif_neg hk]

theorem permuted_all : (dat1 V c).arrAt 1 cfg1.N = cutAll V c := by
  refine (dat1 V c).arrAt_eq_of_covers 1 _ ?_ fun t hf y => ?_
  · decide +kernel
  obtain ⟨o, g, h, rfl⟩ : ∃ (o : Fin 3) (g : Fin 128) (h : Fin 1000), y = ix3 o g h := ⟨y 0, y 1, y 2, eq_ix3 y⟩
  refine Eq.trans ?_ (congrArg (cutAll V c) (emb1_1 t o g h)).symm
  blk_simp
  rw [after_perm]
  exact after1_1 V c t o g h

end Cert.KernelIdeal.Hand
-- ==== Proof.ScoreValue.lean ====
module

public import proofs.«01_k».proof.Proof.MlpBody
public import proofs.«01_k».proof.Proof.Meaning

/-!
  What the last call's body computes: a step's share of the first layer at a row and a column, the layers behind it, and
  the score of a row against the row behind it.
-/

@[expose] public section

noncomputable section

namespace Cert.KernelIdeal.Hand

open Cert.KernelIdeal Cert.KernelIdeal.Gen Cert.Spectra
open Idealize.ShloMosaic

/-- A step's share: the products over its 1152 groups, for each of a group's three outputs. -/
theorem accTerm_at (x0 : Vec Ideal S3x256x1152 .bf16) (x1 : Vec Ideal S3x1152x1000 .bf16) (r : Fin 256) (h : Fin 1000) :
    accTerm x0 x1 (ix2 r h) = (∑ k : Fin 1152, x0 (ix3 0 r k) * x1 (ix3 0 k h))
      + (∑ k : Fin 1152, x0 (ix3 1 r k) * x1 (ix3 1 k h)) + ∑ k : Fin 1152, x0 (ix3 2 r k) * x1 (ix3 2 k h) := by
  pointwise [accTerm, k2_pay1, plane]

theorem accFirst_at (x0 : Vec Ideal S3x256x1152 .bf16) (x1 : Vec Ideal S3x1152x1000 .bf16) (r : Fin 256) (h : Fin 1000) :
    accFirst x0 x1 (ix2 r h) = accTerm x0 x1 (ix2 r h) := by
  pointwise [accFirst]

theorem accNext_at (x0 : Vec Ideal S3x256x1152 .bf16) (x1 : Vec Ideal S3x1152x1000 .bf16) (a : Vec Ideal S256x1000 .f32)
    (r : Fin 256) (h : Fin 1000) :
    accNext x0 x1 a (ix2 r h) = a (ix2 r h) + accTerm x0 x1 (ix2 r h) := by
  pointwise [accNext]

/-- The layers behind the first one, a row at a time. -/
theorem pay5_at (t a : FVec Ideal S256x1000 .f32) (x2 : Vec Ideal S1x1000 .f32) (x3 : Vec Ideal S1000x800 .f32)
    (x4 : Vec Ideal S1x800 .f32) (x5 : Vec Ideal S800x800 .f32) (x6 : Vec Ideal S1x800 .f32) (x7 : Vec Ideal S800x400 .f32)
    (x8 : Vec Ideal S1x400 .f32) (r : Fin 256) (e : Fin 400) :
    k2_pay5 (F := Ideal) t a x2 x3 x4 x5 x6 x7 x8 (ix2 r e)
      = embed (fun h => a (ix2 r h) + t (ix2 r h) + x2 (ix2 0 h)) (fun k n => x3 (ix2 k n)) (fun n => x4 (ix2 0 n))
          (fun k n => x5 (ix2 k n)) (fun n => x6 (ix2 0 n)) (fun k n => x7 (ix2 k n)) (fun n => x8 (ix2 0 n)) e := by
  pointwise [k2_pay5, embed, dense, relu]

/-- The row behind a row, the last one's being the first. -/
def behind (r : Fin 256) : Fin 256 := ⟨(r.val + 1) % 256, Nat.mod_lt _ (by decide)⟩

/-- The score of a row against the row behind it. -/
theorem pay4_at (u : FVec Ideal S256x400 .f32) (r : Fin 256) :
    k2_pay4 (F := Ideal) u (dynamicRotate 0 255#32 none u rotates_S256x400_d0) (ix3 0 r 0)
      = cosine (fun e => u (ix2 r e)) (fun e => u (ix2 (behind r) e)) := by
  pointwise [k2_pay4, cosine, len]
  rfl

/-- The block stored at a row's third step. -/
theorem simOut_at (x0 : Vec Ideal S3x256x1152 .bf16) (x1 : Vec Ideal S3x1152x1000 .bf16) (x2 : Vec Ideal S1x1000 .f32)
    (x3 : Vec Ideal S1000x800 .f32) (x4 : Vec Ideal S1x800 .f32) (x5 : Vec Ideal S800x800 .f32) (x6 : Vec Ideal S1x800 .f32)
    (x7 : Vec Ideal S800x400 .f32) (x8 : Vec Ideal S1x400 .f32) (a : Vec Ideal S256x1000 .f32) (r : Fin 256) :
    simOut x0 x1 x2 x3 x4 x5 x6 x7 x8 a (ix3 0 r 0)
      = cosine (fun e => k2_pay5 (accTerm x0 x1) a x2 x3 x4 x5 x6 x7 x8 (ix2 r e))
          (fun e => k2_pay5 (accTerm x0 x1) a x2 x3 x4 x5 x6 x7 x8 (ix2 (behind r) e)) :=
  pay4_at _ r

end Cert.KernelIdeal.Hand
-- ==== Proof.ScoreArray.lean ====
module

public import proofs.«01_k».proof.Proof.ScoreValue
public import proofs.«01_k».proof.Proof.MlpPoints
public import Idealize.ShloMosaic.Lib.Pipeline.ValueKit

/-!
  The array the third call leaves: a half of the grid has 256 rows; three steps make up the first layer of its rows, and
  the third step stores each row's score against the row behind it in the same half.
-/

@[expose] public section

set_option maxRecDepth 16384

noncomputable section

namespace Cert.KernelIdeal.Hand

open Cert.KernelIdeal Cert.KernelIdeal.Gen Cert.Spectra
open Idealize.ShloMosaic Idealize.ShloMosaic.TcCoe

theorem after_score {F : FTy → Type} [FloatOps F] (V : Arrays F) (c : Dev nD) (t : Fin cfg2.N) :
    (dat2 V c).after 9 t = simOut (blk2 V c 0 t) (blk2 V c 1 t) (blk2 V c 2 t) (blk2 V c 3 t) (blk2 V c 4 t)
      (blk2 V c 5 t) (blk2 V c 6 t) (blk2 V c 7 t) (blk2 V c 8 t) (nextSum V c (t.val - 2)) := rfl

variable (V : Arrays Ideal) (c : Dev nD)

theorem place2_0 : ∀ t : Fin grid2.N, win2_0.index t = ![0, t.val / 3, t.val % 3] := by decide +kernel
theorem place2_1 : ∀ t : Fin grid2.N, win2_1.index t = ![0, t.val % 3, 0] := by decide +kernel
theorem place2_9 : ∀ t : Fin grid2.N, win2_9.index t = ![t.val / 3, 0, 0] := by decide +kernel
theorem place2_2 : ∀ t : Fin grid2.N, win2_2.index t = ![0, 0] := by decide +kernel
theorem place2_3 : ∀ t : Fin grid2.N, win2_3.index t = ![0, 0] := by decide +kernel
theorem place2_4 : ∀ t : Fin grid2.N, win2_4.index t = ![0, 0] := by decide +kernel
theorem place2_5 : ∀ t : Fin grid2.N, win2_5.index t = ![0, 0] := by decide +kernel
theorem place2_6 : ∀ t : Fin grid2.N, win2_6.index t = ![0, 0] := by decide +kernel
theorem place2_7 : ∀ t : Fin grid2.N, win2_7.index t = ![0, 0] := by decide +kernel
theorem place2_8 : ∀ t : Fin grid2.N, win2_8.index t = ![0, 0] := by decide +kernel

/-- Row `r` of half `b`. -/
def rowIn (b : Fin 2) (r : Fin 256) : Fin 512 := ⟨b.val * 256 + r.val, by omega⟩

/-- Group `k` of step `j`. -/
def groupIn (j : Fin 3) (k : Fin 1152) : Fin 3456 := ⟨j.val * 1152 + k.val, by omega⟩

/-- The half and the step of a point. -/
def halfOf (t : Fin cfg2.N) : Fin 2 := ⟨t.val / 3, by have : t.val < 6 := t.isLt.trans_eq N_2; omega⟩
def stepOf (t : Fin cfg2.N) : Fin 3 := ⟨t.val % 3, by omega⟩

theorem emb2_0 (t : Fin cfg2.N) (o : Fin 3) (r : Fin 256) (k : Fin 1152) :
    (win2_0.blk t).view.emb (ix3 o r k) = ix3 o (rowIn (halfOf t) r) (groupIn (stepOf t) k) := by
  funext a
  match a with
  | 0 => exact Fin.ext (by blk_simp [place2_0] <;> rfl)
  | 1 => exact Fin.ext (by blk_simp [place2_0] <;> rfl)
  | 2 => exact Fin.ext (by blk_simp [place2_0] <;> rfl)

theorem emb2_1 (t : Fin cfg2.N) (o : Fin 3) (k : Fin 1152) (h : Fin 1000) :
    (win2_1.blk t).view.emb (ix3 o k h) = ix3 o (groupIn (stepOf t) k) h := by
  funext a
  match a with
  | 0 => exact Fin.ext (by blk_simp [place2_1] <;> rfl)
  | 1 => exact Fin.ext (by blk_simp [place2_1] <;> rfl)
  | 2 => exact Fin.ext (by blk_simp [place2_1] <;> rfl)

theorem emb2_9 (t : Fin cfg2.N) (r : Fin 256) :
    (win2_9.blk t).view.emb (ix3 0 r 0) = ix3 (halfOf t) r 0 := by
  funext a
  match a with
  | 0 => exact Fin.ext (by blk_simp [place2_9] <;> rfl)
  | 1 => exact Fin.ext (by blk_simp [place2_9] <;> rfl)
  | 2 => exact Fin.ext (by blk_simp [place2_9] <;> rfl)

theorem blk2_2 (t : Fin cfg2.N) : blk2 V c 2 t = (V c main_v8 : Vec Ideal S1x1000 .f32) := by
  funext y
  refine congrArg (V c main_v8) (funext fun a => ?_)
  match a with
  | 0 => exact Fin.ext (by blk_simp [place2_2] <;> rfl)
  | 1 => exact Fin.ext (by blk_simp [place2_2] <;> rfl)

theorem blk2_3 (t : Fin cfg2.N) : blk2 V c 3 t = (V c main_arg6 : Vec Ideal S1000x800 .f32) := by
  funext y
  refine congrArg (V c main_arg6) (funext fun a => ?_)
  match a with
  | 0 => exact Fin.ext (by blk_simp [place2_3] <;> rfl)
  | 1 => exact Fin.ext (by blk_simp [place2_3] <;> rfl)

theorem blk2_4 (t : Fin cfg2.N) : blk2 V c 4 t = (V c main_v9 : Vec Ideal S1x800 .f32) := by
  funext y
  refine congrArg (V c main_v9) (funext fun a => ?_)
  match a with
  | 0 => exact Fin.ext (by blk_simp [place2_4] <;> rfl)
  | 1 => exact Fin.ext (by blk_simp [place2_4] <;> rfl)

theorem blk2_5 (t : Fin cfg2.N) : blk2 V c 5 t = (V c main_arg8 : Vec Ideal S800x800 .f32) := by
  funext y
  refine congrArg (V c main_arg8) (funext fun a => ?_)
  match a with
  | 0 => exact Fin.ext (by blk_simp [place2_5] <;> rfl)
  | 1 => exact Fin.ext (by blk_simp [place2_5] <;> rfl)

theorem blk2_6 (t : Fin cfg2.N) : blk2 V c 6 t = (V c main_v10 : Vec Ideal S1x800 .f32) := by
  funext y
  refine congrArg (V c main_v10) (funext fun a => ?_)
  match a with
  | 0 => exact Fin.ext (by blk_simp [place2_6] <;> rfl)
  | 1 => exact Fin.ext (by blk_simp [place2_6] <;> rfl)

theorem blk2_7 (t : Fin cfg2.N) : blk2 V c 7 t = (V c main_arg10 : Vec Ideal S800x400 .f32) := by
  funext y
  refine congrArg (V c main_arg10) (funext fun a => ?_)
  match a with
  | 0 => exact Fin.ext (by blk_simp [place2_7] <;> rfl)
  | 1 => exact Fin.ext (by blk_simp [place2_7] <;> rfl)

theorem blk2_8 (t : Fin cfg2.N) : blk2 V c 8 t = (V c main_v11 : Vec Ideal S1x400 .f32) := by
  funext y
  refine congrArg (V c main_v11) (funext fun a => ?_)
  match a with
  | 0 => exact Fin.ext (by blk_simp [place2_8] <;> rfl)
  | 1 => exact Fin.ext (by blk_simp [place2_8] <;> rfl)

/-- Step `j`'s share of the first layer at row `r` and column `h`. -/
def share (x : Vec Ideal S3x512x3456 .bf16) (w : Vec Ideal S3x3456x1000 .bf16) (r : Fin 512) (h : Fin 1000) (j : Fin 3) :
    EReal :=
  (∑ k : Fin 1152, x (ix3 0 r (groupIn j k)) * w (ix3 0 (groupIn j k) h))
    + (∑ k : Fin 1152, x (ix3 1 r (groupIn j k)) * w (ix3 1 (groupIn j k) h))
    + ∑ k : Fin 1152, x (ix3 2 r (groupIn j k)) * w (ix3 2 (groupIn j k) h)

theorem accTerm_point (t : Fin cfg2.N) (r : Fin 256) (h : Fin 1000) :
    accTerm (blk2 V c 0 t) (blk2 V c 1 t) (ix2 r h)
      = share (V c main_v6) (V c main_v7) (rowIn (halfOf t) r) h (stepOf t) := by
  have e0 (o : Fin 3) (k : Fin 1152) :
      blk2 V c 0 t (ix3 o r k) = V c main_v6 (ix3 o (rowIn (halfOf t) r) (groupIn (stepOf t) k)) :=
    congrArg (V c main_v6) (emb2_0 t o r k)
  have e1 (o : Fin 3) (k : Fin 1152) :
      blk2 V c 1 t (ix3 o k h) = V c main_v7 (ix3 o (groupIn (stepOf t) k) h) :=
    congrArg (V c main_v7) (emb2_1 t o k h)
  refine (accTerm_at _ _ r h).trans ?_
  unfold share
  exact congrArg₂ (· + ·) (congrArg₂ (· + ·)
    (Finset.sum_congr rfl fun k _ => congrArg₂ (· * ·) (e0 0 k) (e1 0 k))
    (Finset.sum_congr rfl fun k _ => congrArg₂ (· * ·) (e0 1 k) (e1 1 k)))
    (Finset.sum_congr rfl fun k _ => congrArg₂ (· * ·) (e0 2 k) (e1 2 k))

/-- The first layer at row `r`, its three shares and the bias. -/
def first (V : Arrays Ideal) (c : Dev nD) (r : Fin 512) (h : Fin 1000) : EReal :=
  share (V c main_v6) (V c main_v7) r h 0 + share (V c main_v6) (V c main_v7) r h 1
    + share (V c main_v6) (V c main_v7) r h 2 + (V c main_v8 : Vec Ideal S1x1000 .f32) (ix2 0 h)

/-- The embedding of row `r`. -/
def embedRow (V : Arrays Ideal) (c : Dev nD) (r : Fin 512) : Fin 400 → EReal :=
  embed (first V c r) (fun k n => (V c main_arg6 : Vec Ideal S1000x800 .f32) (ix2 k n))
    (fun n => (V c main_v9 : Vec Ideal S1x800 .f32) (ix2 0 n)) (fun k n => (V c main_arg8 : Vec Ideal S800x800 .f32) (ix2 k n))
    (fun n => (V c main_v10 : Vec Ideal S1x800 .f32) (ix2 0 n)) (fun k n => (V c main_arg10 : Vec Ideal S800x400 .f32) (ix2 k n))
    (fun n => (V c main_v11 : Vec Ideal S1x400 .f32) (ix2 0 n))

/-- The sum carried into a row's third step. -/
theorem nextSum_at (t : Fin cfg2.N) (ht : t.val % 3 = 2) (r : Fin 256) (h : Fin 1000) :
    nextSum V c (t.val - 2) (ix2 r h)
      = share (V c main_v6) (V c main_v7) (rowIn (halfOf t) r) h 0
        + share (V c main_v6) (V c main_v7) (rowIn (halfOf t) r) h 1 := by
  have hb : t.val < 6 := t.isLt.trans_eq N_2
  have h0 : halfOf (pt2 (t.val - 2)) = halfOf t := Fin.ext (show (t.val - 2) % 6 / 3 = t.val / 3 by omega)
  have h1 : halfOf (pt2 (t.val - 2 + 1)) = halfOf t := Fin.ext (show (t.val - 2 + 1) % 6 / 3 = t.val / 3 by omega)
  have s0 : stepOf (pt2 (t.val - 2)) = 0 := Fin.ext (show (t.val - 2) % 6 % 3 = 0 by omega)
  have s1 : stepOf (pt2 (t.val - 2 + 1)) = 1 := Fin.ext (show (t.val - 2 + 1) % 6 % 3 = 1 by omega)
  unfold nextSum startSum
  refine (accNext_at _ _ _ r h).trans (congrArg₂ (· + ·) ((accFirst_at _ _ r h).trans ?_) ?_)
  · rw [accTerm_point, h0, s0]
  · rw [accTerm_point, h1, s1]

theorem embedRow_point (t : Fin cfg2.N) (ht : t.val % 3 = 2) (r : Fin 256) (e : Fin 400) :
    k2_pay5 (F := Ideal) (accTerm (blk2 V c 0 t) (blk2 V c 1 t)) (nextSum V c (t.val - 2)) (blk2 V c 2 t) (blk2 V c 3 t)
      (blk2 V c 4 t) (blk2 V c 5 t) (blk2 V c 6 t) (blk2 V c 7 t) (blk2 V c 8 t) (ix2 r e)
      = embedRow V c (rowIn (halfOf t) r) e := by
  refine (pay5_at _ _ _ _ _ _ _ _ _ r e).trans ?_
  unfold embedRow
  rw [blk2_2, blk2_3, blk2_4, blk2_5, blk2_6, blk2_7, blk2_8]
  refine congrArg (fun f => embed f _ _ _ _ _ _ e) (funext fun h => ?_)
  have s2 : stepOf t = 2 := Fin.ext ht
  rw [nextSum_at V c t ht, accTerm_point, s2]
  rfl

/-- The array the third call leaves. -/
def scoreAll (V : Arrays Ideal) (c : Dev nD) : Vec Ideal S2x256x1 .f32 := fun y =>
  cosine (embedRow V c (rowIn (y 0) (y 1))) (embedRow V c (rowIn (y 0) (behind (y 1))))

theorem score_point (t : Fin cfg2.N) (ht : t.val % 3 = 2) (r : Fin 256) :
    simOut (F := Ideal) (blk2 V c 0 t) (blk2 V c 1 t) (blk2 V c 2 t) (blk2 V c 3 t) (blk2 V c 4 t)
      (blk2 V c 5 t) (blk2 V c 6 t) (blk2 V c 7 t) (blk2 V c 8 t) (nextSum V c (t.val - 2)) (ix3 0 r 0)
      = cosine (embedRow V c (rowIn (halfOf t) r)) (embedRow V c (rowIn (halfOf t) (behind r))) := by
  refine (simOut_at _ _ _ _ _ _ _ _ _ _ r).trans ?_
  exact congrArg₂ cosine (funext fun e => embedRow_point V c t ht r e)
    (funext fun e => embedRow_point V c t ht (behind r) e)

theorem score_all : (dat2 V c).arrAt 9 cfg2.N = scoreAll V c := by
  refine (dat2 V c).arrAt_eq_of_covers 9 _ ?_ fun t hf y => ?_
  · decide +kernel
  obtain ⟨r, rfl⟩ : ∃ r : Fin 256, y = ix3 0 r 0 := ⟨y 1, by
    funext a
    match a with
    | 0 => exact Fin.ext (Nat.lt_one_iff.1 (y 0).isLt)
    | 1 => rfl
    | 2 => exact Fin.ext (Nat.lt_one_iff.1 (y 2).isLt)⟩
  refine Eq.trans ?_ (congrArg (scoreAll V c) (emb2_9 t r)).symm
  blk_simp
  rw [after_score]
  exact score_point V c t ((flush2_9 t).1 hf) r

end Cert.KernelIdeal.Hand
-- ==== Proof.Regroup.lean ====
module

public import proofs.«01_k».proof.Proof.BinArray
public import proofs.«01_k».proof.Proof.PermArray
public import proofs.«01_k».proof.Proof.ScoreArray

/-!
  The equation between the padded, cut and stepwise first layer and the plain one. Behind the thirty bins of a group the
  weights are zero; behind the 3333 groups the first layer's rows are zero; and the sum over steps, outputs and places is
  the sum over the 9999 features in another order.
-/

@[expose] public section

noncomputable section

namespace Cert.KernelIdeal.Hand

open Cert.KernelIdeal Cert.KernelIdeal.Gen Cert.Spectra Idealize.ShloMosaic

/-- A group's row is the histogram's entry. -/
theorem height_hist (z t : Fin 512 → EReal) (g i : ℕ) (hg : g < 3333) (hi : i < 30) :
    height z t g i = hist z t (g * 30 + i) := by
  unfold height hist
  refine Finset.sum_congr rfl fun p _ => ?_
  by_cases h : (bin (z p)).toNat = g * 30 + i
  · rw [if_pos ⟨h, hi⟩, if_pos h, if_pos (by omega)]
  · rw [if_neg (fun q => h q.1), if_neg h]

/-- A padded group is the group. -/
theorem widened_feature (z t : Fin 512 → EReal) (w : Vec Ideal S3x32x3456 .f32) (b : Vec Ideal S8x3456 .f32)
    (w' : Fin 3333 → Fin 30 → Fin 3 → EReal) (b' : Fin 3333 → Fin 3 → EReal)
    (hw : ∀ o i g, w (ix3 o i g) = if h : i.val < 30 ∧ g.val < 3333 then w' ⟨g.val, h.2⟩ ⟨i.val, h.1⟩ o else (0 : EReal))
    (hb : ∀ o g, b (ix2 o g) = if h : o.val < 3 ∧ g.val < 3333 then b' ⟨g.val, h.2⟩ ⟨o.val, h.1⟩ else (0 : EReal))
    (o : Fin 3) (g : Fin 3456) (hg : g.val < 3333) :
    widened z t w b o g = feature z t w' b' ⟨g.val, hg⟩ o := by
  unfold widened feature
  have e : (∑ i : Fin 32, height z t g.val i.val * w (ix3 o i g))
      = ∑ i : Fin 30, hist z t (g.val * 30 + i.val) * w' ⟨g.val, hg⟩ i o := by
    rw [Fin.sum_univ_castSucc, Fin.sum_univ_castSucc]
    rw [hw o (Fin.last 31) g, dif_neg (fun h => absurd h.1 (by decide)), mul_zero, add_zero]
    rw [hw o (Fin.castSucc (Fin.last 30)) g, dif_neg (fun h => absurd h.1 (by decide)), mul_zero, add_zero]
    refine Finset.sum_congr rfl fun i _ => ?_
    rw [hw o i.castSucc.castSucc g, dif_pos ⟨i.isLt, hg⟩]
    exact congrArg (· * _) (height_hist z t g.val i.val hg i.isLt)
  rw [e, hb, dif_pos ⟨o.isLt, hg⟩]

/-- A sum over the features is the sum over outputs, steps and places of the padded groups, where the summand is zero
behind the groups. -/
theorem regroup (f : Fin 9999 → EReal) (q : Fin 3 → Fin 3456 → EReal)
    (hq : ∀ o g, q o g = if h : g.val < 3333 then f ⟨g.val * 3 + o.val, by omega⟩ else 0) :
    (∑ j : Fin 3, ((∑ k, q 0 (groupIn j k)) + (∑ k, q 1 (groupIn j k)) + ∑ k, q 2 (groupIn j k))) = ∑ k, f k := by
  have e1 (o : Fin 3) : (∑ j : Fin 3, ∑ k, q o (groupIn j k)) = ∑ g, q o g := by
    rw [← Fintype.sum_prod_type' (f := fun j k => q o (groupIn j k))]
    exact Fintype.sum_equiv (finProdFinEquiv (m := 3) (n := 1152)) _ _ fun x => congrArg (q o) (Fin.ext (by
      show x.1.val * 1152 + x.2.val = x.2.val + 1152 * x.1.val
      omega))
  have e2 (o : Fin 3) : (∑ g, q o g) = ∑ g : Fin 3333, f ⟨g.val * 3 + o.val, by omega⟩ := by
    have : (∑ g : Fin (3333 + 123), q o (Fin.cast rfl g)) = ∑ g : Fin 3333, f ⟨g.val * 3 + o.val, by omega⟩ := by
      rw [Fin.sum_univ_add]
      have z : (∑ i : Fin 123, q o (Fin.cast rfl (Fin.natAdd 3333 i))) = 0 :=
        Finset.sum_eq_zero fun i _ => by
          rw [hq]
          exact dif_neg (by show ¬(3333 + i.val < 3333); omega)
      rw [z, add_zero]
      refine Finset.sum_congr rfl fun i _ => ?_
      rw [hq]
      exact dif_pos i.isLt
    exact this
  have e3 : (∑ k, f k) = ∑ o : Fin 3, ∑ g : Fin 3333, f ⟨g.val * 3 + o.val, by omega⟩ := by
    rw [Finset.sum_comm, ← Fintype.sum_prod_type' (f := fun (g : Fin 3333) (o : Fin 3) => f ⟨g.val * 3 + o.val, by omega⟩)]
    exact (Fintype.sum_equiv (finProdFinEquiv (m := 3333) (n := 3)) _ _ fun x => congrArg f (Fin.ext (by
      show x.1.val * 3 + x.2.val = x.2.val + 3 * x.1.val
      omega))).symm
  rw [Finset.sum_add_distrib, Finset.sum_add_distrib, e1, e1, e1, e2, e2, e2, e3, Fin.sum_univ_three]

/-- The three shares of the first layer make the sum over the features. -/
theorem shares_eq (x : Vec Ideal S3x512x3456 .bf16) (w : Vec Ideal S3x3456x1000 .bf16) (r : Fin 512) (h : Fin 1000)
    (u v : Fin 9999 → EReal)
    (hx : ∀ (o : Fin 3) (g : Fin 3456), g.val < 3333 → ∀ k : Fin 9999, k.val = g.val * 3 + o.val → x (ix3 o r g) = u k)
    (hw : ∀ (o : Fin 3) (g : Fin 3456), w (ix3 o g h) = if hg : g.val < 3333 then v ⟨g.val * 3 + o.val, by omega⟩ else (0 : EReal)) :
    share x w r h 0 + share x w r h 1 + share x w r h 2 = ∑ k, u k * v k := by
  refine Eq.trans ?_ (regroup (fun k => u k * v k) (fun o g => (x (ix3 o r g) * w (ix3 o g h) : EReal)) fun o g => ?_)
  · rw [Fin.sum_univ_three]
    rfl
  · rw [hw]
    by_cases hg : g.val < 3333
    · rw [dif_pos hg, dif_pos hg, hx o g hg ⟨g.val * 3 + o.val, by omega⟩ rfl]
    · rw [dif_neg hg, dif_neg hg, mul_zero]

end Cert.KernelIdeal.Hand
-- ==== Proof.HostValue.lean ====
module

public import proofs.«01_k».proof.Proof.Run
public import proofs.«01_k».proof.Proof.Meaning
public import Idealize.ShloMosaic.Lib.StableHlo.ReadAt

/-!
  What the host operations around the three calls hold: the spectra as rows, the grouping weights and biases transposed
  and padded with zeros, the layers' biases as rows, and every second of the 512 scores.
-/

@[expose] public section

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD)

/-! The twelve arguments as they are given. -/

/-- Argument 0: the peaks' places. -/
abbrev A0 : Vec Ideal S256x2x512 .f32 := m ((c : Thread nD τ).loc main_arg0)
/-- Argument 1: the peaks' heights. -/
abbrev A1 : Vec Ideal S256x2x512 .f32 := m ((c : Thread nD τ).loc main_arg1)
/-- Argument 2: the grouping weights. -/
abbrev A2 : Vec Ideal S3333x30x3 .f32 := m ((c : Thread nD τ).loc main_arg2)
/-- Argument 3: the grouping biases. -/
abbrev A3 : Vec Ideal S3333x3 .f32 := m ((c : Thread nD τ).loc main_arg3)
/-- Argument 4: the first layer's weights. -/
abbrev A4 : Vec Ideal S9999x1000 .f32 := m ((c : Thread nD τ).loc main_arg4)
/-- Argument 5: its bias. -/
abbrev A5 : Vec Ideal S1000 .f32 := m ((c : Thread nD τ).loc main_arg5)
/-- Argument 6: the second layer's weights. -/
abbrev A6 : Vec Ideal S1000x800 .f32 := m ((c : Thread nD τ).loc main_arg6)
/-- Argument 7: its bias. -/
abbrev A7 : Vec Ideal S800 .f32 := m ((c : Thread nD τ).loc main_arg7)
/-- Argument 8: the third layer's weights. -/
abbrev A8 : Vec Ideal S800x800 .f32 := m ((c : Thread nD τ).loc main_arg8)
/-- Argument 9: its bias. -/
abbrev A9 : Vec Ideal S800 .f32 := m ((c : Thread nD τ).loc main_arg9)
/-- Argument 10: the last layer's weights. -/
abbrev A10 : Vec Ideal S800x400 .f32 := m ((c : Thread nD τ).loc main_arg10)
/-- Argument 11: its bias. -/
abbrev A11 : Vec Ideal S400 .f32 := m ((c : Thread nD τ).loc main_arg11)

theorem rows0_at (r p : Fin 512) : V4 m c main_v0 (ix2 r p)
    = A0 m c (ix3 ⟨r.val / 2, by omega⟩ ⟨r.val % 2, by omega⟩ p) := by
  rw [V4_of m c main_v0 (by decide), V3_of m c main_v0 (by decide), V2_of m c main_v0 (by decide)]
  unfold V1
  after_reads_at

theorem rows1_at (r p : Fin 512) : V4 m c main_v1 (ix2 r p)
    = A1 m c (ix3 ⟨r.val / 2, by omega⟩ ⟨r.val % 2, by omega⟩ p) := by
  rw [V4_of m c main_v1 (by decide), V3_of m c main_v1 (by decide), V2_of m c main_v1 (by decide)]
  unfold V1
  after_reads_at

theorem word0 : (FloatOps.sitofp .f32 0#32 : Ideal .f32) = (0 : EReal) := by
  show (((0#32).toInt : ℝ) : EReal) = 0
  simp

/-- The grouping weights: zero behind the thirty bins of a group and behind the groups. -/
theorem weights_at (o : Fin 3) (i : Fin 32) (g : Fin 3456) : V4 m c main_v3 (ix3 o i g)
    = if h : i.val < 30 ∧ g.val < 3333 then A2 m c (ix3 ⟨g.val, h.2⟩ ⟨i.val, h.1⟩ o) else (0 : EReal) := by
  rw [V4_of m c main_v3 (by decide), V3_of m c main_v3 (by decide)]
  unfold V2 V1
  after_reads_at
  rw [word0]

/-- The grouping biases. -/
theorem biases_at (o : Fin 8) (g : Fin 3456) : V4 m c main_v5 (ix2 o g)
    = if h : o.val < 3 ∧ g.val < 3333 then A3 m c (ix2 ⟨g.val, h.2⟩ ⟨o.val, h.1⟩) else (0 : EReal) := by
  unfold V4 V3
  after_reads_at
  rw [word0]

/-- An array that neither the host nor the first two calls write. -/
theorem W5_given (b : Ref sig .tc) (h0 : b ∉ hostOps0_W) (h1 : b ∉ hostOps0_1_W) (h2 : b ∉ hostOps0_2_W)
    (h3 : b ∉ hostOps0_3_W) (h6 : b ≠ main_v6) : W5 m c b = m ((c : Thread nD τ).loc b) :=
  (W5_off m c b h6).trans <| (V4_of m c b h3).trans <| (V3_of m c b h2).trans <| (V2_of m c b h1).trans <| V1_of m c b h0
theorem W6_given (b : Ref sig .tc) (h0 : b ∉ hostOps0_W) (h1 : b ∉ hostOps0_1_W) (h2 : b ∉ hostOps0_2_W)
    (h3 : b ∉ hostOps0_3_W) (h6 : b ≠ main_v6) (h7 : b ≠ main_v7) : W6 m c b = m ((c : Thread nD τ).loc b) :=
  (W6_off m c b h7).trans (W5_given m c b h0 h1 h2 h3 h6)
/-- What the third call finds where the biases are not laid out. -/
theorem W7_of (b : Ref sig .tc) (h : b ∉ hostOps2_W) : W7 m c b = W6 m c b :=
  StableHlo.after_of_writes_sub hostOps2 _ hostOps2_writes h

theorem W5_arg4 : W5 m c main_arg4 = A4 m c :=
  W5_given m c _ (by decide) (by decide) (by decide) (by decide) (by decide)
theorem W7_arg6 : W7 m c main_arg6 = A6 m c :=
  (W7_of m c _ (by decide)).trans (W6_given m c _ (by decide) (by decide) (by decide) (by decide) (by decide) (by decide))
theorem W7_arg8 : W7 m c main_arg8 = A8 m c :=
  (W7_of m c _ (by decide)).trans (W6_given m c _ (by decide) (by decide) (by decide) (by decide) (by decide) (by decide))
theorem W7_arg10 : W7 m c main_arg10 = A10 m c :=
  (W7_of m c _ (by decide)).trans (W6_given m c _ (by decide) (by decide) (by decide) (by decide) (by decide) (by decide))
theorem W7_bins : W7 m c main_v6 = binned m c :=
  (W7_of m c _ (by decide)).trans <| (W6_off m c _ (by decide)).trans (Function.update_self (main_v6 : DevRef τ sig) (binned m c) (V4 m c))
theorem W7_cut : W7 m c main_v7 = permuted m c :=
  (W7_of m c _ (by decide)).trans (Function.update_self (main_v7 : DevRef τ sig) (permuted m c) (W5 m c))

theorem bias0_at (h : Fin 1000) : W7 m c main_v8 (ix2 0 h) = A5 m c (ix1 h) := by
  refine Eq.trans (b := W6 m c main_arg5 (ix1 h)) ?_ (congrFun (W6_given m c main_arg5 (by decide) (by decide) (by decide) (by decide) (by decide) (by decide)) _)
  unfold W7
  after_reads_at
theorem bias1_at (h : Fin 800) : W7 m c main_v9 (ix2 0 h) = A7 m c (ix1 h) := by
  refine Eq.trans (b := W6 m c main_arg7 (ix1 h)) ?_ (congrFun (W6_given m c main_arg7 (by decide) (by decide) (by decide) (by decide) (by decide) (by decide)) _)
  unfold W7
  after_reads_at
theorem bias2_at (h : Fin 800) : W7 m c main_v10 (ix2 0 h) = A9 m c (ix1 h) := by
  refine Eq.trans (b := W6 m c main_arg9 (ix1 h)) ?_ (congrFun (W6_given m c main_arg9 (by decide) (by decide) (by decide) (by decide) (by decide) (by decide)) _)
  unfold W7
  after_reads_at
theorem bias3_at (h : Fin 400) : W7 m c main_v11 (ix2 0 h) = A11 m c (ix1 h) := by
  refine Eq.trans (b := W6 m c main_arg11 (ix1 h)) ?_ (congrFun (W6_given m c main_arg11 (by decide) (by decide) (by decide) (by decide) (by decide) (by decide)) _)
  unfold W7
  after_reads_at

/-- Every second score is kept. -/
theorem kept_at (i : Fin 256) : W9 m c main_v14 (ix1 i)
    = scored m c (ix3 ⟨2 * i.val / 256, by omega⟩ ⟨2 * i.val % 256, by omega⟩ 0) := by
  refine Eq.trans (b := W8 m c main_v12 (ix3 ⟨2 * i.val / 256, by omega⟩ ⟨2 * i.val % 256, by omega⟩ 0)) ?_
    (congrFun (Function.update_self (main_v12 : DevRef τ sig) (scored m c) (W7 m c)) _)
  unfold W9
  after_reads_at

end Cert.KernelIdeal.Hand
-- ==== Proof.SpectrumValue.lean ====
module

public import proofs.«01_k».proof.Proof.Words
public import proofs.«01_k».proof.Proof.Gen.ReferenceIdeal.Read
public import Idealize.ShloMosaic.Lib.Routing.OpsPair

/-!
  What the reference computes first: the bins, the peaks, the pairs of index words (row, bin), and the scatter of the
  peaks, whose entry is the spectrum's histogram.
-/

@[expose] public section

noncomputable section

namespace Cert.ReferenceIdeal.Hand

open Cert.ReferenceIdeal Cert.ReferenceIdeal.Read Cert.Spectra Idealize.ShloMosaic

/-- Row `r` of the 512 spectra that 256 pairs are. -/
def spectrum (x : Vec Ideal S256x2x512 .f32) (r : Fin 512) (p : Fin 512) : EReal :=
  x (ix3 ⟨r.val / 2, by omega⟩ ⟨r.val % 2, by omega⟩ p)

theorem rows0_at (x : Vec Ideal S256x2x512 .f32) (r p : Fin 512) : val_main_v0 (F := Ideal) x (ix2 r p) = spectrum x r p := by
  unfold val_main_v0 spectrum
  pointwise

theorem rows1_at (x : Vec Ideal S256x2x512 .f32) (r p : Fin 512) : val_main_v1 (F := Ideal) x (ix2 r p) = spectrum x r p := by
  unfold val_main_v1 spectrum
  pointwise

theorem bins_at (x : Vec Ideal S256x2x512 .f32) (r p : Fin 512) :
    val_main_v12 (F := Ideal) x (ix2 r p) = bin (spectrum x r p) := by
  rw [← rows0_at]
  unfold val_main_v12 val_main_call0_v4 val_main_call0_v3 val_main_call0_v2 val_main_call0_v1 val_main_call0_v0 val_main_c
    val_main_c_3 val_main_v11 val_main_v10 val_main_v9 val_main_v8 val_main_v7 val_main_cst_1 val_main_cst_2
  generalize val_main_v0 (F := Ideal) x = y
  pointwise [bin, id, constantI]
  rfl

theorem peaks_at (x t : Vec Ideal S256x2x512 .f32) (r p : Fin 512) :
    val_main_v14 (F := Ideal) x t (ix2 r p) = peak (spectrum x r p) (spectrum t r p) := by
  rw [← rows0_at, ← rows1_at]
  unfold val_main_v14 val_main_v13 val_main_v6 val_main_v5 val_main_v4 val_main_v3 val_main_v2 val_main_cst val_main_cst_0
    val_main_call1_v1 val_main_call1_v0 val_main_cst_4
  generalize val_main_v0 (F := Ideal) x = y
  generalize val_main_v1 (F := Ideal) t = z
  pointwise [peak, id, constant]

theorem pair0_at (x : Vec Ideal S256x2x512 .f32) (r p : Fin 512) :
    val_main_v31 (F := Ideal) x (ix3 r p 0) = BitVec.ofNat 32 r.val := by
  rw [← Routing.wrap_of_lt (BitVec.ofNat 32 r.val) (IntOp.addi (BitVec.ofNat 32 r.val) 512#32) (by
    rw [BitVec.toNat_ofNat]; have := r.isLt; omega)]
  unfold val_main_v31
  generalize val_main_v30 (F := Ideal) x = y
  unfold val_main_v29 val_main_v28 val_main_v22 val_main_v21 val_main_v20 val_main_v19 val_main_v18 val_main_v16 val_main_v15
    val_main_c_6 val_main_c_7
  pointwise

theorem pair1_at (x : Vec Ideal S256x2x512 .f32) (r p : Fin 512) :
    val_main_v31 (F := Ideal) x (ix3 r p 1) = bin (spectrum x r p) := by
  rw [← Routing.wrap_of_lt (bin (spectrum x r p)) (IntOp.addi (bin (spectrum x r p)) 100000#32) (by
    have := bin_small (spectrum x r p); omega), ← bins_at]
  unfold val_main_v31
  generalize val_main_v29 (F := Ideal) = y
  unfold val_main_v30 val_main_v27 val_main_v26 val_main_v25 val_main_v24 val_main_v23 val_main_c_8 val_main_c_9
  generalize val_main_v12 (F := Ideal) x = z
  pointwise

/-- The scatter's entry is the sum of the peaks whose bin it is. -/
theorem hist_at (x t : Vec Ideal S256x2x512 .f32) (r : Fin 512) (n : Fin 100000) :
    val_main_v32 (F := Ideal) x t (ix2 r n) = hist (spectrum x r) (spectrum t r) n.val := by
  have e : val_main_v32 (F := Ideal) x t (ix2 r n) = val_main_v17 (F := Ideal) (ix2 r n)
      + ∑ j ∈ Finset.univ.filter (fun j => scatter_S512x100000_S512x512x2_S512x512_n_01_01_2.resultIdx? j
          (val_main_v31 (F := Ideal) x) = some (ix2 r n)), val_main_v14 (F := Ideal) x t j := rfl
  have e0 : val_main_v17 (F := Ideal) (ix2 r n) = 0 := by
    unfold val_main_v17 val_main_cst_5
    pointwise
  have row (a : Fin 512) : (BitVec.ofNat 32 a.val).toInt = (a.val : ℤ) := by
    have h : (BitVec.ofNat 32 a.val).toNat = a.val := by rw [BitVec.toNat_ofNat]; have := a.isLt; omega
    rw [toInt_small _ (by rw [h]; have := a.isLt; omega), h]
  have land (a b : Fin 512) : (scatter_S512x100000_S512x512x2_S512x512_n_01_01_2.resultIdx? (ix2 a b)
      (val_main_v31 (F := Ideal) x) = some (ix2 r n)) ↔ a = r ∧ (bin (spectrum x a b)).toNat = n.val := by
    refine (Routing.scatter_lands2 scatter_S512x100000_S512x512x2_S512x512_n_01_01_2 rfl rfl rfl _ a b r n).trans ?_
    refine Iff.trans (and_congr (Iff.of_eq (congrArg (fun w : BitVec 32 => w.toInt = (r.val : ℤ)) (pair0_at x a b)))
      (Iff.of_eq (congrArg (fun w : BitVec 32 => w.toInt = (n.val : ℤ)) (pair1_at x a b)))) ?_
    rw [row, toInt_small _ (bin_small _), Fin.ext_iff]
    omega
  rw [e, e0, zero_add, Finset.sum_filter]
  refine (ValueIdx.sum_idx2 _).trans ?_
  refine (Finset.sum_eq_single r (fun a _ ha => Finset.sum_eq_zero fun b _ => if_neg fun h => ha ((land a b).1 h).1)
    (fun h => absurd (Finset.mem_univ r) h)).trans ?_
  unfold hist
  refine Finset.sum_congr rfl fun p _ => ?_
  by_cases h : (bin (spectrum x r p)).toNat = n.val
  · rw [if_pos h]
    exact (if_pos ((land r p).2 ⟨rfl, h⟩)).trans (peaks_at x t r p)
  · rw [if_neg h]
    exact if_neg fun q => h ((land r p).1 q).2

end Cert.ReferenceIdeal.Hand
-- ==== Proof.EmbedValue.lean ====
module

public import proofs.«01_k».proof.Proof.SpectrumValue

/-!
  What the reference computes from the histograms: the grouped features, the four dense layers, and the cosine of the
  two embeddings of a pair.
-/

@[expose] public section

noncomputable section

namespace Cert.ReferenceIdeal.Hand

open Cert.ReferenceIdeal Cert.ReferenceIdeal.Read Cert.Spectra Idealize.ShloMosaic

/-- A matrix's entry. -/
def entry {a b : ℕ} (w : Vec Ideal ⟨2, ![a, b]⟩ .f32) (i : Fin a) (j : Fin b) : EReal := w (ix2 i j)
/-- A vector's entry. -/
def coord {a : ℕ} (w : Vec Ideal ⟨1, ![a]⟩ .f32) (i : Fin a) : EReal := w (ix1 i)
/-- A box's entry. -/
def cell {a b c : ℕ} (w : Vec Ideal ⟨3, ![a, b, c]⟩ .f32) (i : Fin a) (j : Fin b) (k : Fin c) : EReal := w (ix3 i j k)

variable (x t : Vec Ideal S256x2x512 .f32) (w : Vec Ideal S3333x30x3 .f32) (b : Vec Ideal S3333x3 .f32)

theorem grouped_at (r : Fin 512) (g : Fin 3333) (i : Fin 30) :
    val_main_v34 (F := Ideal) x t (ix3 r g i) = hist (spectrum x r) (spectrum t r) (g.val * 30 + i.val) := by
  refine Eq.trans ?_ (hist_at x t r ⟨g.val * 30 + i.val, by omega⟩)
  unfold val_main_v34 val_main_v33
  generalize val_main_v32 (F := Ideal) x t = y
  pointwise

theorem feature_at (r : Fin 512) (g : Fin 3333) (o : Fin 3) :
    val_main_v39 (F := Ideal) x t w b (ix3 r g o)
      = feature (spectrum x r) (spectrum t r) (cell w) (entry b) g o := by
  have e : val_main_v39 (F := Ideal) x t w b (ix3 r g o)
      = (∑ i : Fin 30, w (ix3 g i o) * val_main_v34 (F := Ideal) x t (ix3 r g i)) + b (ix2 g o) := by
    unfold val_main_v39 val_main_v38 val_main_v37 val_main_v36 val_main_v35
    generalize val_main_v34 (F := Ideal) x t = y
    pointwise
  rw [e]
  unfold feature
  refine congrArg (· + b (ix2 g o)) (Finset.sum_congr rfl fun i _ => ?_)
  rw [grouped_at, mul_comm]
  rfl

theorem features_at (r : Fin 512) (k : Fin 9999) :
    val_main_v40 (F := Ideal) x t w b (ix2 r k)
      = features (spectrum x r) (spectrum t r) (cell w) (entry b) k := by
  unfold features
  rw [← feature_at]
  unfold val_main_v40
  generalize val_main_v39 (F := Ideal) x t w b = y
  pointwise

variable (w0 : Vec Ideal S9999x1000 .f32) (b0 : Vec Ideal S1000 .f32) (w1 : Vec Ideal S1000x800 .f32) (b1 : Vec Ideal S800 .f32)
  (w2 : Vec Ideal S800x800 .f32) (b2 : Vec Ideal S800 .f32) (we : Vec Ideal S800x400 .f32) (be : Vec Ideal S400 .f32)

/-- The first layer of spectrum `r`. -/
def firstOf (r : Fin 512) : Fin 1000 → EReal :=
  dense (features (spectrum x r) (spectrum t r) (cell w) (entry b)) (entry w0) (coord b0)

theorem first_at (r : Fin 512) (n : Fin 1000) :
    val_main_v44 (F := Ideal) x t w b w0 b0 (ix2 r n) = firstOf x t w b w0 b0 r n := by
  have e : val_main_v44 (F := Ideal) x t w b w0 b0 (ix2 r n)
      = (∑ k : Fin 9999, val_main_v40 (F := Ideal) x t w b (ix2 r k) * w0 (ix2 k n)) + b0 (ix1 n) := by
    unfold val_main_v44 val_main_v43 val_main_v42 val_main_v41
    generalize val_main_v40 (F := Ideal) x t w b = y
    pointwise
  rw [e]
  unfold firstOf dense
  simp only [features_at]
  rfl

/-- The embedding of spectrum `r`. -/
def embedOf (r : Fin 512) : Fin 400 → EReal :=
  embed (firstOf x t w b w0 b0 r) (entry w1) (coord b1) (entry w2) (coord b2) (entry we) (coord be)

theorem embed_at (r : Fin 512) (n : Fin 400) :
    val_main_v59 (F := Ideal) x t w b w0 b0 w1 b1 w2 b2 we be (ix2 r n) = embedOf x t w b w0 b0 w1 b1 w2 b2 we be r n := by
  have h (k : Fin 1000) := first_at x t w b w0 b0 r k
  unfold embedOf
  have h' : firstOf x t w b w0 b0 r = fun k => val_main_v44 (F := Ideal) x t w b w0 b0 (ix2 r k) := funext fun k => (h k).symm
  rw [h']
  unfold val_main_v59 val_main_v58 val_main_v57 val_main_v56 val_main_v55 val_main_v54 val_main_v53 val_main_v52 val_main_v51
    val_main_v50 val_main_v49 val_main_v48 val_main_v47 val_main_v46 val_main_v45 val_main_call2_v0 val_main_call2_cst
    val_main_call3_v0 val_main_call3_cst val_main_call4_v0 val_main_call4_cst
  generalize val_main_v44 (F := Ideal) x t w b w0 b0 = y
  pointwise [embed, dense, relu, entry, coord]

theorem score_at (i : Fin 256) :
    val_main_v74 (F := Ideal) x t w b w0 b0 w1 b1 w2 b2 we be (ix1 i)
      = cosine (embedOf x t w b w0 b0 w1 b1 w2 b2 we be ⟨i.val * 2, by omega⟩)
          (embedOf x t w b w0 b0 w1 b1 w2 b2 we be ⟨i.val * 2 + 1, by omega⟩) := by
  have h (r : Fin 512) : embedOf x t w b w0 b0 w1 b1 w2 b2 we be r
      = fun n => val_main_v59 (F := Ideal) x t w b w0 b0 w1 b1 w2 b2 we be (ix2 r n) := funext fun n => (embed_at ..).symm
  rw [h, h]
  unfold val_main_v74 val_main_v73 val_main_v72 val_main_v71 val_main_v70 val_main_v69 val_main_v68 val_main_v67 val_main_v66
    val_main_v65 val_main_call5_v1 val_main_call5_v0 val_main_call6_v1 val_main_call6_v0 val_main_cst_10 val_main_cst_11 val_main_cst_12
    val_main_call5_cst val_main_call6_cst val_main_v64 val_main_v63 val_main_v62 val_main_v61 val_main_v60
  generalize val_main_v59 (F := Ideal) x t w b w0 b0 w1 b1 w2 b2 we be = y
  pointwise [cosine, len]

end Cert.ReferenceIdeal.Hand
-- ==== Proof.Equal.lean ====
module

public import proofs.«01_k».proof.Proof.Regroup
public import proofs.«01_k».proof.Proof.HostValue
public import proofs.«01_k».proof.Proof.EmbedValue

/-!
  The equation: what the kernel leaves in its result is what the reference computes from the same arguments.
-/

@[expose] public section

noncomputable section

namespace Cert.KernelIdeal.Hand

open Cert.KernelIdeal Cert.KernelIdeal.Gen Cert.Spectra Idealize.ShloMosaic Idealize.ShloMosaic.TcCoe Idealize.SL.Sem
open Cert.ReferenceIdeal.Hand (spectrum cell entry coord firstOf embedOf score_at)

variable (m : (ℓ : Loc nD τ sig) → Buf (Elt Ideal) ℓ) (c : Dev nD)

/-- The binned array at a group that the problem has. -/
theorem binned_at (o : Fin 3) (r : Fin 512) (g : Fin 3456) (hg : g.val < 3333) :
    (W7 m c main_v6 : Vec Ideal S3x512x3456 .bf16) (ix3 o r g)
      = feature (spectrum (A0 m c) r) (spectrum (A1 m c) r) (cell (A2 m c)) (entry (A3 m c)) ⟨g.val, hg⟩ o := by
  refine (congrFun ((W7_bins m c).trans (binned_all (atBin m) c)) (ix3 o r g)).trans ?_
  have e0 : massOf (V4 m c main_v0) r = spectrum (A0 m c) r := funext fun p => rows0_at m c r p
  have e1 : massOf (V4 m c main_v1) r = spectrum (A1 m c) r := funext fun p => rows1_at m c r p
  show widened (massOf (V4 m c main_v0) r) (massOf (V4 m c main_v1) r) (V4 m c main_v3) (V4 m c main_v5) o g = _
  rw [e0, e1]
  exact widened_feature _ _ _ _ (cell (A2 m c)) (entry (A3 m c)) (weights_at m c) (biases_at m c) o g hg

/-- The cut weights. -/
theorem cut_at (o : Fin 3) (g : Fin 3456) (h : Fin 1000) :
    (W7 m c main_v7 : Vec Ideal S3x3456x1000 .bf16) (ix3 o g h)
      = if hg : g.val < 3333 then A4 m c (ix2 ⟨g.val * 3 + o.val, by omega⟩ h) else (0 : EReal) := by
  refine (congrFun ((W7_cut m c).trans (permuted_all (atPerm m) c)) (ix3 o g h)).trans ?_
  show cut3 (W5 m c main_arg4) o.val g.val h = _
  rw [W5_arg4]
  unfold cut3
  by_cases hg : g.val < 3333
  · rw [dif_pos hg, dif_pos (by omega)]
  · rw [dif_neg hg, dif_neg (by omega)]

/-- The first layer. -/
theorem first_eq (r : Fin 512) :
    first (atMlp m) c r = firstOf (A0 m c) (A1 m c) (A2 m c) (A3 m c) (A4 m c) (A5 m c) r := by
  funext h
  unfold first firstOf dense
  refine congrArg₂ (· + ·) ?_ (bias0_at m c h)
  refine shares_eq _ _ r h _ _ (fun o g hg k hk => ?_) (fun o g => cut_at m c o g h)
  refine (binned_at m c o r g hg).trans ?_
  unfold features
  exact congrArg₂ (feature _ _ _ _) (Fin.ext (by show g.val = k.val / 3; omega)) (Fin.ext (by show o.val = k.val % 3; omega))

/-- The embedding of a row. -/
theorem embed_eq (r : Fin 512) : embedRow (atMlp m) c r
    = embedOf (A0 m c) (A1 m c) (A2 m c) (A3 m c) (A4 m c) (A5 m c) (A6 m c) (A7 m c) (A8 m c) (A9 m c) (A10 m c) (A11 m c) r := by
  unfold embedRow embedOf
  rw [first_eq]
  have e1 : (fun n => (W7 m c main_v9 : Vec Ideal S1x800 .f32) (ix2 0 n)) = coord (A7 m c) := funext fun n => bias1_at m c n
  have e2 : (fun n => (W7 m c main_v10 : Vec Ideal S1x800 .f32) (ix2 0 n)) = coord (A9 m c) := funext fun n => bias2_at m c n
  have e3 : (fun n => (W7 m c main_v11 : Vec Ideal S1x400 .f32) (ix2 0 n)) = coord (A11 m c) := funext fun n => bias3_at m c n
  have w1 : (fun k n => (W7 m c main_arg6 : Vec Ideal S1000x800 .f32) (ix2 k n)) = entry (A6 m c) :=
    funext fun k => funext fun n => congrFun (W7_arg6 m c) (ix2 k n)
  have w2 : (fun k n => (W7 m c main_arg8 : Vec Ideal S800x800 .f32) (ix2 k n)) = entry (A8 m c) :=
    funext fun k => funext fun n => congrFun (W7_arg8 m c) (ix2 k n)
  have w3 : (fun k n => (W7 m c main_arg10 : Vec Ideal S800x400 .f32) (ix2 k n)) = entry (A10 m c) :=
    funext fun k => funext fun n => congrFun (W7_arg10 m c) (ix2 k n)
  dsimp only [atMlp]
  rw [e1, e2, e3, w1, w2, w3]

/-- The kernel's result is the reference's. -/
theorem result_eq : (W9 m c main_v14 : Vec Ideal S256 .f32)
    = Cert.ReferenceIdeal.Read.val_main_v74 (F := Ideal) (A0 m c) (A1 m c) (A2 m c) (A3 m c) (A4 m c) (A5 m c) (A6 m c) (A7 m c)
        (A8 m c) (A9 m c) (A10 m c) (A11 m c) := by
  funext y
  obtain ⟨i, rfl⟩ : ∃ i : Fin 256, y = ix1 i := ⟨y 0, eq_ix1 y⟩
  refine (kept_at m c i).trans (Eq.trans ?_ (score_at ..).symm)
  refine (congrFun (score_all (atMlp m) c) _).trans ?_
  show cosine (embedRow (atMlp m) c (rowIn ⟨2 * i.val / 256, _⟩ ⟨2 * i.val % 256, _⟩))
    (embedRow (atMlp m) c (rowIn ⟨2 * i.val / 256, _⟩ (behind ⟨2 * i.val % 256, _⟩))) = _
  rw [embed_eq, embed_eq]
  have r0 : rowIn ⟨2 * i.val / 256, by omega⟩ ⟨2 * i.val % 256, by omega⟩ = (⟨i.val * 2, by omega⟩ : Fin 512) :=
    Fin.ext (by show 2 * i.val / 256 * 256 + 2 * i.val % 256 = i.val * 2; omega)
  have r1 : rowIn ⟨2 * i.val / 256, by omega⟩ (behind ⟨2 * i.val % 256, by omega⟩) = (⟨i.val * 2 + 1, by omega⟩ : Fin 512) :=
    Fin.ext (by show 2 * i.val / 256 * 256 + (2 * i.val % 256 + 1) % 256 = i.val * 2 + 1; omega)
  rw [r0, r1]

end Cert.KernelIdeal.Hand
-- ==== Proof.lean ====
/-
  The proof of `Cert.Claim`: the frames of the two kernels (`Proof/Run.lean`, and its like for the program as printed), the frame
  of the reference (its generated run), and the claims between them: the kernel's result is the reference's (`Proof/Equal.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.PrintedRun
public import proofs.«01_k».proof.Proof.Equal
public import Idealize.ShloMosaic.Adequacy
public import Idealize.ShloMosaic.Init

@[expose] public section

noncomputable section

namespace Cert.Proof

open Idealize.ShloMosaic Idealize.SL.Sem Cert.Kernel

theorem frame_printed : Cert.quiescent_Kernel := fun m g _ =>
  (θ_run Cert.Kernel.defs _ _).mono (fun _ h => ⟨fun c => (h.1 c).2, h.2⟩) (Cert.Kernel.Hand.runs (F := Bits) m g)

theorem frame_kernel : Cert.quiescent_KernelIdeal := fun m g _ =>
  (θ_run Cert.KernelIdeal.defs _ _).mono (fun _ h => ⟨fun c => (h.1 c).2, h.2⟩) (Cert.KernelIdeal.Hand.runs (F := Ideal) m g)

theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- From the same arguments the kernel ends with what the reference ends with. -/
theorem equal_results : Cert.algebraic_KernelIdeal_ReferenceIdeal := fun m g m' g' _ same =>
  ⟨fun c => Cert.KernelIdeal.Hand.W9 m c (Proc.devRef .tc Cert.KernelIdeal.main_v14),
    (θ_run Cert.KernelIdeal.defs _ _).mono (fun _ h => h.1) (Cert.KernelIdeal.Hand.runs (F := Ideal) m g),
    (θ_run Cert.ReferenceIdeal.defs _ _).mono (fun _ h c => by
      obtain ⟨a0, a1, a2, a3, a4, a5, a6, a7, a8, a9, a10, a11⟩ := same c
      refine ⟨(h c).1.trans ?_, (h c).2⟩
      rw [Cert.ReferenceIdeal.Read.val_main_v74_eq, a0, a1, a2, a3, a4, a5, a6, a7, a8, a9, a10, a11]
      exact (Cert.KernelIdeal.Hand.result_eq m c).symm)
      (Cert.ReferenceIdeal.Value.run (F := Ideal) m' g')⟩

theorem claim : Cert.Claim :=
  ⟨Cert.Kernel.Gen.facts, Cert.KernelIdeal.Gen.facts, Cert.ReferenceIdeal.Gen.facts, frame_printed, frame_kernel, frame_reference, trivial, equal_results⟩

end Cert.Proof

end
